-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S16x4096x2048 : Shape := ⟨3, ![16, 4096, 2048]⟩
abbrev S16x4096x1024 : Shape := ⟨3, ![16, 4096, 1024]⟩
abbrev S_ : Shape := ⟨0, ![]⟩

class Facts : Prop where
  bitsLt_bf16_f32 : FTy.bits .bf16 < FTy.bits .f32
  bcast_S_S16x4096x2048 : S_.BroadcastsInDim S16x4096x2048 (![] : Fin 0 → Fin S16x4096x2048.rank)

variable [Facts]

def fn {F : FTy → Type} [FloatOps F] (main_arg0 : FVec F S16x4096x2048 .bf16) (main_arg1 : FVec F S16x4096x2048 .bf16) (main_arg2 : FVec F S16x4096x1024 .bf16) : IVec S16x4096x2048 1 :=
  let main_v0 : FVec F S16x4096x2048 .f32 := (extf .f32 · bitsLt_bf16_f32) main_arg0
  let main_v1 : FVec F S16x4096x2048 .f32 := Host.absf main_v0
  let main_cst : FVec F S_ .f32 := constant S_ .f32 0x7F800000#32
  let main_v2 : FVec F S16x4096x2048 .f32 := broadcastInDim S16x4096x2048 ![] bcast_S_S16x4096x2048 main_cst
  let main_v3 : IVec S16x4096x2048 1 := cmpf .olt main_v1 main_v2
  let main_v4 : FVec F S16x4096x2048 .f32 := (extf .f32 · bitsLt_bf16_f32) main_arg1
  let main_v5 : FVec F S16x4096x2048 .f32 := Host.absf main_v4
  let main_cst_0 : FVec F S_ .f32 := constant S_ .f32 0x7F800000#32
  let main_v6 : FVec F S16x4096x2048 .f32 := broadcastInDim S16x4096x2048 ![] bcast_S_S16x4096x2048 main_cst_0
  let main_v7 : IVec S16x4096x2048 1 := cmpf .olt main_v5 main_v6
  let main_v8 : IVec S16x4096x2048 1 := andi main_v3 main_v7
  main_v8
-- ==== Kernel.lean ====
abbrev S512x1024x128 : Shape := ⟨3, ![512, 1024, 128]⟩
abbrev S512x512x128 : Shape := ⟨3, ![512, 512, 128]⟩
abbrev S65536x128 : Shape := ⟨2, ![65536, 128]⟩
abbrev S512x256x128 : Shape := ⟨3, ![512, 256, 128]⟩
abbrev S512x80x128 : Shape := ⟨3, ![512, 80, 128]⟩
abbrev S2x256x1024 : Shape := ⟨3, ![2, 256, 1024]⟩
abbrev S128x128 : Shape := ⟨2, ![128, 128]⟩
abbrev S16x32x1024x128 : Shape := ⟨4, ![16, 32, 1024, 128]⟩
abbrev S16x32x512x128 : Shape := ⟨4, ![16, 32, 512, 128]⟩
abbrev S16x32x256x128 : Shape := ⟨4, ![16, 32, 256, 128]⟩
abbrev S16x32x80x128 : Shape := ⟨4, ![16, 32, 80, 128]⟩
abbrev S16x4096x128 : Shape := ⟨3, ![16, 4096, 128]⟩
abbrev S16x4096x1024 : Shape := ⟨3, ![16, 4096, 1024]⟩
abbrev S1x1x1024x128 : Shape := ⟨4, ![1, 1, 1024, 128]⟩
abbrev S1x1x512x128 : Shape := ⟨4, ![1, 1, 512, 128]⟩
abbrev S1x128x128 : Shape := ⟨3, ![1, 128, 128]⟩
abbrev S1x32x256x128 : Shape := ⟨4, ![1, 32, 256, 128]⟩
abbrev S1x32x80x128 : Shape := ⟨4, ![1, 32, 80, 128]⟩
abbrev S1x128x1024 : Shape := ⟨3, ![1, 128, 1024]⟩
abbrev S32x128x128 : Shape := ⟨3, ![32, 128, 128]⟩
abbrev S40x128x128 : Shape := ⟨3, ![40, 128, 128]⟩
abbrev S2x2x1x128x1024 : Shape := ⟨5, ![2, 2, 1, 128, 1024]⟩
abbrev S2x2x1x1x1024 : Shape := ⟨5, ![2, 2, 1, 1, 1024]⟩
abbrev S2x1x1x1024 : Shape := ⟨4, ![2, 1, 1, 1024]⟩
abbrev S2x1x80x1024 : Shape := ⟨4, ![2, 1, 80, 1024]⟩
abbrev S512x128 : Shape := ⟨2, ![512, 128]⟩
abbrev S1x1x256x128 : Shape := ⟨4, ![1, 1, 256, 128]⟩
abbrev S256x128 : Shape := ⟨2, ![256, 128]⟩
abbrev S256x512 : Shape := ⟨2, ![256, 512]⟩
abbrev S1x128 : Shape := ⟨2, ![1, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1024x128 : Shape := ⟨2, ![1024, 128]⟩
abbrev S2x1x128x1024 : Shape := ⟨4, ![2, 1, 128, 1024]⟩
abbrev S1x2x1x128x1024 : Shape := ⟨5, ![1, 2, 1, 128, 1024]⟩
abbrev S1x2x1x1x1024 : Shape := ⟨5, ![1, 2, 1, 1, 1024]⟩
abbrev S1x1x80x128 : Shape := ⟨4, ![1, 1, 80, 128]⟩
abbrev S80x128 : Shape := ⟨2, ![80, 128]⟩
abbrev S1x1x80x1024 : Shape := ⟨4, ![1, 1, 80, 1024]⟩
abbrev S80x1024 : Shape := ⟨2, ![80, 1024]⟩
abbrev S1x1x1x1x1024 : Shape := ⟨5, ![1, 1, 1, 1, 1024]⟩
abbrev S1x1024 : Shape := ⟨2, ![1, 1024]⟩
abbrev S1x1x1x128x1024 : Shape := ⟨5, ![1, 1, 1, 128, 1024]⟩
abbrev S128x1024 : Shape := ⟨2, ![128, 1024]⟩
abbrev S256x1024 : Shape := ⟨2, ![256, 1024]⟩
abbrev S1x1x1x1024 : Shape := ⟨4, ![1, 1, 1, 1024]⟩
abbrev S1024 : Shape := ⟨1, ![1024]⟩
abbrev S1x256x1024 : Shape := ⟨3, ![1, 256, 1024]⟩
abbrev S64x128 : Shape := ⟨2, ![64, 128]⟩

abbrev nBuf : Space → Nat
  | .hbm => 15
  | .vmem => 24
  | .smem => 0
  | _ => 0

abbrev bufTy : (tb : Table) → Fin (tcTables nBuf tb) → BufTy
  | .hbm, ⟨0, _⟩ => ⟨S512x1024x128, .bf16⟩
  | .hbm, ⟨1, _⟩ => ⟨S512x512x128, .bf16⟩
  | .hbm, ⟨2, _⟩ => ⟨S65536x128, .f32⟩
  | .hbm, ⟨3, _⟩ => ⟨S512x256x128, .bf16⟩
  | .hbm, ⟨4, _⟩ => ⟨S512x80x128, .bf16⟩
  | .hbm, ⟨5, _⟩ => ⟨S512x256x128, .bf16⟩
  | .hbm, ⟨6, _⟩ => ⟨S2x256x1024, .f32⟩
  | .hbm, ⟨7, _⟩ => ⟨S128x128, .bf16⟩
  | .hbm, ⟨8, _⟩ => ⟨S16x32x1024x128, .bf16⟩
  | .hbm, ⟨9, _⟩ => ⟨S16x32x512x128, .bf16⟩
  | .hbm, ⟨10, _⟩ => ⟨S16x32x256x128, .bf16⟩
  | .hbm, ⟨11, _⟩ => ⟨S16x32x80x128, .bf16⟩
  | .hbm, ⟨12, _⟩ => ⟨S16x32x256x128, .bf16⟩
  | .hbm, ⟨13, _⟩ => ⟨S16x4096x128, .f32⟩
  | .hbm, ⟨14, _⟩ => ⟨S16x4096x1024, .bf16⟩
  | .local _ .vmem, ⟨0, _⟩ => ⟨S1x1x1024x128, .bf16⟩
  | .local _ .vmem, ⟨1, _⟩ => ⟨S1x1x1024x128, .bf16⟩
  | .local _ .vmem, ⟨2, _⟩ => ⟨S1x1x512x128, .bf16⟩
  | .local _ .vmem, ⟨3, _⟩ => ⟨S1x1x512x128, .bf16⟩
  | .local _ .vmem, ⟨4, _⟩ => ⟨S1x128x128, .f32⟩
  | .local _ .vmem, ⟨5, _⟩ => ⟨S1x128x128, .f32⟩
  | .local _ .vmem, ⟨6, _⟩ => ⟨S1x32x256x128, .bf16⟩
  | .local _ .vmem, ⟨7, _⟩ => ⟨S1x32x256x128, .bf16⟩
  | .local _ .vmem, ⟨8, _⟩ => ⟨S1x32x80x128, .bf16⟩
  | .local _ .vmem, ⟨9, _⟩ => ⟨S1x32x80x128, .bf16⟩
  | .local _ .vmem, ⟨10, _⟩ => ⟨S1x32x256x128, .bf16⟩
  | .local _ .vmem, ⟨11, _⟩ => ⟨S1x32x256x128, .bf16⟩
  | .local _ .vmem, ⟨12, _⟩ => ⟨S2x256x1024, .f32⟩
  | .local _ .vmem, ⟨13, _⟩ => ⟨S128x128, .bf16⟩
  | .local _ .vmem, ⟨14, _⟩ => ⟨S1x128x1024, .bf16⟩
  | .local _ .vmem, ⟨15, _⟩ => ⟨S1x128x1024, .bf16⟩
  | .local _ .vmem, ⟨16, _⟩ => ⟨S32x128x128, .f32⟩
  | .local _ .vmem, ⟨17, _⟩ => ⟨S40x128x128, .i16⟩
  | .local _ .vmem, ⟨18, _⟩ => ⟨S40x128x128, .i16⟩
  | .local _ .vmem, ⟨19, _⟩ => ⟨S2x2x1x128x1024, .f32⟩
  | .local _ .vmem, ⟨20, _⟩ => ⟨S2x2x1x128x1024, .bf16⟩
  | .local _ .vmem, ⟨21, _⟩ => ⟨S2x2x1x1x1024, .f32⟩
  | .local _ .vmem, ⟨22, _⟩ => ⟨S2x1x1x1024, .f32⟩
  | .local _ .vmem, ⟨23, _⟩ => ⟨S2x1x80x1024, .f32⟩
  | _, _ => ⟨S512x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![16, 32], ![false, false]⟩

@[reducible] def k0_t1_loop (i : grid0.Coords) : Scf.Loop 32 :=
  let c0_i32_13 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v26 : BitVec 32 := Scalar.subi v18 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_15 : BitVec 32 := 1#32
  ⟨c0_i32_13, v30, c1_i32_15⟩
def k0_off1 (i : grid0.Coords) (k0_t1 : Fin (k0_t1_loop i).trips) (c0_i32_565 : BitVec 32) : Fin 4 → Nat :=
  let c0_566 : Index := 0#32
  let c0_i32_13 : BitVec 32 := 0#32
  let c1_i32_15 : BitVec 32 := 1#32
  let arg19 : BitVec 32 := Scf.iv c0_i32_13 c1_i32_15 k0_t1
  let c4_i32_564 : BitVec 32 := 4#32
  let v664 : BitVec 32 := Scalar.muli arg19 c4_i32_564
  let v665 : BitVec 32 := Scalar.addi v664 c0_i32_565
  let v666 : Index := Scalar.indexCast v665
  let c0_567 : Index := 0#32
  let c0_568 : Index := 0#32
  ![0, v666.toNat, 0, 0]
def k0_off2 (i : grid0.Coords) (k0_t1 : Fin (k0_t1_loop i).trips) (c0_i32_565 : BitVec 32) : Fin 3 → Nat :=
  let c0_i32_13 : BitVec 32 := 0#32
  let c1_i32_15 : BitVec 32 := 1#32
  let arg19 : BitVec 32 := Scf.iv c0_i32_13 c1_i32_15 k0_t1
  let c4_i32_564 : BitVec 32 := 4#32
  let v664 : BitVec 32 := Scalar.muli arg19 c4_i32_564
  let v665 : BitVec 32 := Scalar.addi v664 c0_i32_565
  let v722 : Index := Scalar.indexCast v665
  let c0_573 : Index := 0#32
  let c0_574 : Index := 0#32
  ![v722.toNat, 0, 0]
def k0_off3 (i : grid0.Coords) (k0_t1 : Fin (k0_t1_loop i).trips) (c0_i32_565 : BitVec 32) : Fin 3 → Nat :=
  let c0_i32_13 : BitVec 32 := 0#32
  let c1_i32_15 : BitVec 32 := 1#32
  let arg19 : BitVec 32 := Scf.iv c0_i32_13 c1_i32_15 k0_t1
  let c4_i32_564 : BitVec 32 := 4#32
  let v664 : BitVec 32 := Scalar.muli arg19 c4_i32_564
  let v665 : BitVec 32 := Scalar.addi v664 c0_i32_565
  let v735 : Index := Scalar.indexCast v665
  let c0_576 : Index := 0#32
  let c0_577 : Index := 0#32
  ![v735.toNat, 0, 0]
@[reducible] def k0_t2_loop (i : grid0.Coords) : Scf.Loop 32 :=
  let c0_i32_13 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v26 : BitVec 32 := Scalar.subi v18 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let v27 : BitVec 32 := Scalar.addi c0_i32_13 v26
  let c1_i32_16 : BitVec 32 := 1#32
  ⟨v30, v27, c1_i32_16⟩
def k0_off4 (i : grid0.Coords) (k0_t2 : Fin (k0_t2_loop i).trips) (c0_i32_565 : BitVec 32) : Fin 4 → Nat :=
  let c0_566 : Index := 0#32
  let c0_i32_13 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v26 : BitVec 32 := Scalar.subi v18 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_16 : BitVec 32 := 1#32
  let arg19 : BitVec 32 := Scf.iv v30 c1_i32_16 k0_t2
  let c4_i32_564 : BitVec 32 := 4#32
  let v664 : BitVec 32 := Scalar.muli arg19 c4_i32_564
  let v665 : BitVec 32 := Scalar.addi v664 c0_i32_565
  let v666 : Index := Scalar.indexCast v665
  let c0_567 : Index := 0#32
  let c0_568 : Index := 0#32
  ![0, v666.toNat, 0, 0]
def k0_off5 (i : grid0.Coords) (k0_t2 : Fin (k0_t2_loop i).trips) (c0_i32_565 : BitVec 32) : Fin 3 → Nat :=
  let c0_i32_13 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v26 : BitVec 32 := Scalar.subi v18 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_16 : BitVec 32 := 1#32
  let arg19 : BitVec 32 := Scf.iv v30 c1_i32_16 k0_t2
  let c4_i32_564 : BitVec 32 := 4#32
  let v664 : BitVec 32 := Scalar.muli arg19 c4_i32_564
  let v665 : BitVec 32 := Scalar.addi v664 c0_i32_565
  let v722 : Index := Scalar.indexCast v665
  let c0_573 : Index := 0#32
  let c0_574 : Index := 0#32
  ![v722.toNat, 0, 0]
def k0_off6 (i : grid0.Coords) (k0_t2 : Fin (k0_t2_loop i).trips) (c0_i32_565 : BitVec 32) : Fin 3 → Nat :=
  let c0_i32_13 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v26 : BitVec 32 := Scalar.subi v18 c0_i32_13
  let c1_i32_14 : BitVec 32 := 1#32
  let v28 : BitVec 32 := Scalar.divsi v26 c1_i32_14
  let v29 : BitVec 32 := Scalar.muli v28 c1_i32_14
  let v30 : BitVec 32 := Scalar.addi c0_i32_13 v29
  let c1_i32_16 : BitVec 32 := 1#32
  let arg19 : BitVec 32 := Scf.iv v30 c1_i32_16 k0_t2
  let c4_i32_564 : BitVec 32 := 4#32
  let v664 : BitVec 32 := Scalar.muli arg19 c4_i32_564
  let v665 : BitVec 32 := Scalar.addi v664 c0_i32_565
  let v735 : Index := Scalar.indexCast v665
  let c0_576 : Index := 0#32
  let c0_577 : Index := 0#32
  ![v735.toNat, 0, 0]
def k0_off7 (i : grid0.Coords) (c0_i32_18 : BitVec 32) : Fin 3 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let c4_i32_17 : BitVec 32 := 4#32
  let v32 : BitVec 32 := Scalar.muli v18 c4_i32_17
  let v33 : BitVec 32 := Scalar.addi v32 c0_i32_18
  let v34 : Index := Scalar.indexCast v33
  let c0_19 : Index := 0#32
  let c0_20 : Index := 0#32
  ![v34.toNat, 0, 0]
def k0_cond1 (i : grid0.Coords) : BitVec 1 :=
  let arg1 : BitVec 32 := BitVec.ofNat 32 (i 1).val
  let c1_i32 : BitVec 32 := 1#32
  let v0 : BitVec 32 := Scalar.addi arg1 c1_i32
  let c128_i32 : BitVec 32 := 128#32
  let v80 : BitVec 32 := Scalar.muli v0 c128_i32
  let c256_i32 : BitVec 32 := 256#32
  let v81 : BitVec 1 := Scalar.cmpi .sgt v80 c256_i32
  let v82 : BitVec 32 := Scalar.extui v81
  let c0_i32_47 : BitVec 32 := 0#32
  let v83 : BitVec 1 := Scalar.cmpi .ne v82 c0_i32_47
  v83

def k0_cond2 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let c4_i32_564 : BitVec 32 := 4#32
  let v664 : BitVec 32 := Scalar.muli v18 c4_i32_564
  let c8_i32 : BitVec 32 := 8#32
  let v665 : BitVec 32 := Scalar.addi v664 c8_i32
  let c1_i32_565 : BitVec 32 := 1#32
  let v666 : BitVec 32 := Scalar.subi v665 c1_i32_565
  let c0_i32_567 : BitVec 32 := 0#32
  let v668 : BitVec 1 := Scalar.cmpi .sgt v666 c0_i32_567
  let v669 : BitVec 32 := Scalar.extui v668
  let c0_i32_568 : BitVec 32 := 0#32
  let v670 : BitVec 1 := Scalar.cmpi .slt v666 c0_i32_568
  let v671 : BitVec 32 := Scalar.extui v670
  let v672 : BitVec 32 := Scalar.subi v669 v671
  let c8_i32_566 : BitVec 32 := 8#32
  let c0_i32_569 : BitVec 32 := 0#32
  let v673 : BitVec 1 := Scalar.cmpi .sgt c8_i32_566 c0_i32_569
  let v674 : BitVec 32 := Scalar.extui v673
  let c0_i32_570 : BitVec 32 := 0#32
  let v675 : BitVec 1 := Scalar.cmpi .slt c8_i32_566 c0_i32_570
  let v676 : BitVec 32 := Scalar.extui v675
  let v677 : BitVec 32 := Scalar.subi v674 v676
  let v678 : BitVec 1 := Scalar.cmpi .ne v672 v677
  let v679 : BitVec 32 := Scalar.remsi v666 c8_i32_566
  let c0_i32_571 : BitVec 32 := 0#32
  let v680 : BitVec 1 := Scalar.cmpi .ne v679 c0_i32_571
  let v681 : BitVec 1 := Scalar.andi v678 v680
  let v667 : BitVec 32 := Scalar.divsi v666 c8_i32_566
  let c1_i32_572 : BitVec 32 := 1#32
  let v682 : BitVec 32 := Scalar.subi v667 c1_i32_572
  let v683 : BitVec 32 := Scalar.select v681 v682 v667
  let c1_i32_573 : BitVec 32 := 1#32
  let v684 : BitVec 32 := Scalar.subi v683 c1_i32_573
  let c0_i32_574 : BitVec 32 := 0#32
  let v685 : BitVec 32 := Scalar.maxsi v684 c0_i32_574
  let c3_i32_575 : BitVec 32 := 3#32
  let v686 : BitVec 32 := Scalar.minsi v685 c3_i32_575
  let c0_i32_576 : BitVec 32 := 0#32
  let v687 : BitVec 1 := Scalar.cmpi .ne v686 c0_i32_576
  v687

def k0_cond3 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let c4_i32_564 : BitVec 32 := 4#32
  let v664 : BitVec 32 := Scalar.muli v18 c4_i32_564
  let c8_i32 : BitVec 32 := 8#32
  let v665 : BitVec 32 := Scalar.addi v664 c8_i32
  let c1_i32_565 : BitVec 32 := 1#32
  let v666 : BitVec 32 := Scalar.subi v665 c1_i32_565
  let c0_i32_567 : BitVec 32 := 0#32
  let v668 : BitVec 1 := Scalar.cmpi .sgt v666 c0_i32_567
  let v669 : BitVec 32 := Scalar.extui v668
  let c0_i32_568 : BitVec 32 := 0#32
  let v670 : BitVec 1 := Scalar.cmpi .slt v666 c0_i32_568
  let v671 : BitVec 32 := Scalar.extui v670
  let v672 : BitVec 32 := Scalar.subi v669 v671
  let c8_i32_566 : BitVec 32 := 8#32
  let c0_i32_569 : BitVec 32 := 0#32
  let v673 : BitVec 1 := Scalar.cmpi .sgt c8_i32_566 c0_i32_569
  let v674 : BitVec 32 := Scalar.extui v673
  let c0_i32_570 : BitVec 32 := 0#32
  let v675 : BitVec 1 := Scalar.cmpi .slt c8_i32_566 c0_i32_570
  let v676 : BitVec 32 := Scalar.extui v675
  let v677 : BitVec 32 := Scalar.subi v674 v676
  let v678 : BitVec 1 := Scalar.cmpi .ne v672 v677
  let v679 : BitVec 32 := Scalar.remsi v666 c8_i32_566
  let c0_i32_571 : BitVec 32 := 0#32
  let v680 : BitVec 1 := Scalar.cmpi .ne v679 c0_i32_571
  let v681 : BitVec 1 := Scalar.andi v678 v680
  let v667 : BitVec 32 := Scalar.divsi v666 c8_i32_566
  let c1_i32_572 : BitVec 32 := 1#32
  let v682 : BitVec 32 := Scalar.subi v667 c1_i32_572
  let v683 : BitVec 32 := Scalar.select v681 v682 v667
  let c1_i32_573 : BitVec 32 := 1#32
  let v684 : BitVec 32 := Scalar.subi v683 c1_i32_573
  let c0_i32_574 : BitVec 32 := 0#32
  let v685 : BitVec 32 := Scalar.maxsi v684 c0_i32_574
  let c3_i32_575 : BitVec 32 := 3#32
  let v686 : BitVec 32 := Scalar.minsi v685 c3_i32_575
  let c1_i32_577 : BitVec 32 := 1#32
  let v689 : BitVec 32 := Scalar.subi v686 c1_i32_577
  let c0_i32_578 : BitVec 32 := 0#32
  let v690 : BitVec 1 := Scalar.cmpi .ne v689 c0_i32_578
  v690

def k0_cond4 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let c4_i32_564 : BitVec 32 := 4#32
  let v664 : BitVec 32 := Scalar.muli v18 c4_i32_564
  let c8_i32 : BitVec 32 := 8#32
  let v665 : BitVec 32 := Scalar.addi v664 c8_i32
  let c1_i32_565 : BitVec 32 := 1#32
  let v666 : BitVec 32 := Scalar.subi v665 c1_i32_565
  let c0_i32_567 : BitVec 32 := 0#32
  let v668 : BitVec 1 := Scalar.cmpi .sgt v666 c0_i32_567
  let v669 : BitVec 32 := Scalar.extui v668
  let c0_i32_568 : BitVec 32 := 0#32
  let v670 : BitVec 1 := Scalar.cmpi .slt v666 c0_i32_568
  let v671 : BitVec 32 := Scalar.extui v670
  let v672 : BitVec 32 := Scalar.subi v669 v671
  let c8_i32_566 : BitVec 32 := 8#32
  let c0_i32_569 : BitVec 32 := 0#32
  let v673 : BitVec 1 := Scalar.cmpi .sgt c8_i32_566 c0_i32_569
  let v674 : BitVec 32 := Scalar.extui v673
  let c0_i32_570 : BitVec 32 := 0#32
  let v675 : BitVec 1 := Scalar.cmpi .slt c8_i32_566 c0_i32_570
  let v676 : BitVec 32 := Scalar.extui v675
  let v677 : BitVec 32 := Scalar.subi v674 v676
  let v678 : BitVec 1 := Scalar.cmpi .ne v672 v677
  let v679 : BitVec 32 := Scalar.remsi v666 c8_i32_566
  let c0_i32_571 : BitVec 32 := 0#32
  let v680 : BitVec 1 := Scalar.cmpi .ne v679 c0_i32_571
  let v681 : BitVec 1 := Scalar.andi v678 v680
  let v667 : BitVec 32 := Scalar.divsi v666 c8_i32_566
  let c1_i32_572 : BitVec 32 := 1#32
  let v682 : BitVec 32 := Scalar.subi v667 c1_i32_572
  let v683 : BitVec 32 := Scalar.select v681 v682 v667
  let c1_i32_573 : BitVec 32 := 1#32
  let v684 : BitVec 32 := Scalar.subi v683 c1_i32_573
  let c0_i32_574 : BitVec 32 := 0#32
  let v685 : BitVec 32 := Scalar.maxsi v684 c0_i32_574
  let c3_i32_575 : BitVec 32 := 3#32
  let v686 : BitVec 32 := Scalar.minsi v685 c3_i32_575
  let c1_i32_577 : BitVec 32 := 1#32
  let v689 : BitVec 32 := Scalar.subi v686 c1_i32_577
  let c1_i32_579 : BitVec 32 := 1#32
  let v692 : BitVec 32 := Scalar.subi v689 c1_i32_579
  let c0_i32_580 : BitVec 32 := 0#32
  let v693 : BitVec 1 := Scalar.cmpi .ne v692 c0_i32_580
  v693

@[reducible] def k0_t3_loop : Scf.Loop 32 :=
  let c0_i32_582 : BitVec 32 := 0#32
  let c16_i32 : BitVec 32 := 16#32
  let v696 : BitVec 32 := Scalar.addi c0_i32_582 c16_i32
  let c1_i32_583 : BitVec 32 := 1#32
  ⟨c0_i32_582, v696, c1_i32_583⟩
@[reducible] def k0_t4_loop : Scf.Loop 32 :=
  let c0_i32_1040 : BitVec 32 := 0#32
  let c16_i32_1041 : BitVec 32 := 16#32
  let v1325 : BitVec 32 := Scalar.addi c0_i32_1040 c16_i32_1041
  let c1_i32_1042 : BitVec 32 := 1#32
  ⟨c0_i32_1040, v1325, c1_i32_1042⟩
@[reducible] def k0_t5_loop : Scf.Loop 32 :=
  let c0_i32_582 : BitVec 32 := 0#32
  let c16_i32 : BitVec 32 := 16#32
  let v696 : BitVec 32 := Scalar.addi c0_i32_582 c16_i32
  let c1_i32_583 : BitVec 32 := 1#32
  ⟨c0_i32_582, v696, c1_i32_583⟩
@[reducible] def k0_t6_loop : Scf.Loop 32 :=
  let c0_i32_928 : BitVec 32 := 0#32
  let c16_i32_929 : BitVec 32 := 16#32
  let v1173 : BitVec 32 := Scalar.addi c0_i32_928 c16_i32_929
  let c1_i32_930 : BitVec 32 := 1#32
  ⟨c0_i32_928, v1173, c1_i32_930⟩
@[reducible] def k0_t7_loop : Scf.Loop 32 :=
  let c0_i32_580 : BitVec 32 := 0#32
  let c16_i32 : BitVec 32 := 16#32
  let v693 : BitVec 32 := Scalar.addi c0_i32_580 c16_i32
  let c1_i32_581 : BitVec 32 := 1#32
  ⟨c0_i32_580, v693, c1_i32_581⟩
@[reducible] def k0_t8_loop : Scf.Loop 32 :=
  let c0_i32_814 : BitVec 32 := 0#32
  let c16_i32_815 : BitVec 32 := 16#32
  let v1018 : BitVec 32 := Scalar.addi c0_i32_814 c16_i32_815
  let c1_i32_816 : BitVec 32 := 1#32
  ⟨c0_i32_814, v1018, c1_i32_816⟩
@[reducible] def k0_t9_loop : Scf.Loop 32 :=
  let c0_i32_578 : BitVec 32 := 0#32
  let c16_i32 : BitVec 32 := 16#32
  let v690 : BitVec 32 := Scalar.addi c0_i32_578 c16_i32
  let c1_i32_579 : BitVec 32 := 1#32
  ⟨c0_i32_578, v690, c1_i32_579⟩
@[reducible] def k0_t10_loop : Scf.Loop 32 :=
  let c0_i32_700 : BitVec 32 := 0#32
  let c16_i32_701 : BitVec 32 := 16#32
  let v863 : BitVec 32 := Scalar.addi c0_i32_700 c16_i32_701
  let c1_i32_702 : BitVec 32 := 1#32
  ⟨c0_i32_700, v863, c1_i32_702⟩
@[reducible] def k0_t11_loop (i : grid0.Coords) : Scf.Loop 32 :=
  let c0_i32_48 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v86 : BitVec 32 := Scalar.subi v18 c0_i32_48
  let c1_i32_49 : BitVec 32 := 1#32
  let v88 : BitVec 32 := Scalar.divsi v86 c1_i32_49
  let v89 : BitVec 32 := Scalar.muli v88 c1_i32_49
  let v90 : BitVec 32 := Scalar.addi c0_i32_48 v89
  let c1_i32_50 : BitVec 32 := 1#32
  ⟨c0_i32_48, v90, c1_i32_50⟩
def k0_off8 (i : grid0.Coords) (k0_t11 : Fin (k0_t11_loop i).trips) (c0_i32_565 : BitVec 32) : Fin 3 → Nat :=
  let c0_i32_48 : BitVec 32 := 0#32
  let c1_i32_50 : BitVec 32 := 1#32
  let arg19 : BitVec 32 := Scf.iv c0_i32_48 c1_i32_50 k0_t11
  let c4_i32_564 : BitVec 32 := 4#32
  let v664 : BitVec 32 := Scalar.muli arg19 c4_i32_564
  let v665 : BitVec 32 := Scalar.addi v664 c0_i32_565
  let v666 : Index := Scalar.indexCast v665
  let c0_566 : Index := 0#32
  let c0_567 : Index := 0#32
  ![v666.toNat, 0, 0]
@[reducible] def k0_t12_loop (i : grid0.Coords) : Scf.Loop 32 :=
  let c0_i32_48 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v86 : BitVec 32 := Scalar.subi v18 c0_i32_48
  let c1_i32_49 : BitVec 32 := 1#32
  let v88 : BitVec 32 := Scalar.divsi v86 c1_i32_49
  let v89 : BitVec 32 := Scalar.muli v88 c1_i32_49
  let v90 : BitVec 32 := Scalar.addi c0_i32_48 v89
  let v87 : BitVec 32 := Scalar.addi c0_i32_48 v86
  let c1_i32_51 : BitVec 32 := 1#32
  ⟨v90, v87, c1_i32_51⟩
def k0_off9 (i : grid0.Coords) (k0_t12 : Fin (k0_t12_loop i).trips) (c0_i32_565 : BitVec 32) : Fin 3 → Nat :=
  let c0_i32_48 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v86 : BitVec 32 := Scalar.subi v18 c0_i32_48
  let c1_i32_49 : BitVec 32 := 1#32
  let v88 : BitVec 32 := Scalar.divsi v86 c1_i32_49
  let v89 : BitVec 32 := Scalar.muli v88 c1_i32_49
  let v90 : BitVec 32 := Scalar.addi c0_i32_48 v89
  let c1_i32_51 : BitVec 32 := 1#32
  let arg19 : BitVec 32 := Scf.iv v90 c1_i32_51 k0_t12
  let c4_i32_564 : BitVec 32 := 4#32
  let v664 : BitVec 32 := Scalar.muli arg19 c4_i32_564
  let v665 : BitVec 32 := Scalar.addi v664 c0_i32_565
  let v666 : Index := Scalar.indexCast v665
  let c0_566 : Index := 0#32
  let c0_567 : Index := 0#32
  ![v666.toNat, 0, 0]
@[reducible] def k0_t13_loop (i : grid0.Coords) : Scf.Loop 32 :=
  let c0_i32_54 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v96 : BitVec 32 := Scalar.subi v18 c0_i32_54
  let c1_i32_55 : BitVec 32 := 1#32
  let v98 : BitVec 32 := Scalar.divsi v96 c1_i32_55
  let v99 : BitVec 32 := Scalar.muli v98 c1_i32_55
  let v100 : BitVec 32 := Scalar.addi c0_i32_54 v99
  let c1_i32_56 : BitVec 32 := 1#32
  ⟨c0_i32_54, v100, c1_i32_56⟩
def k0_off10 (i : grid0.Coords) (k0_t13 : Fin (k0_t13_loop i).trips) (c0_i32_565 : BitVec 32) : Fin 3 → Nat :=
  let c0_i32_54 : BitVec 32 := 0#32
  let c1_i32_56 : BitVec 32 := 1#32
  let arg19 : BitVec 32 := Scf.iv c0_i32_54 c1_i32_56 k0_t13
  let c4_i32_564 : BitVec 32 := 4#32
  let v664 : BitVec 32 := Scalar.muli arg19 c4_i32_564
  let v665 : BitVec 32 := Scalar.addi v664 c0_i32_565
  let v666 : Index := Scalar.indexCast v665
  let c0_566 : Index := 0#32
  let c0_567 : Index := 0#32
  ![v666.toNat, 0, 0]
@[reducible] def k0_t14_loop (i : grid0.Coords) : Scf.Loop 32 :=
  let c0_i32_54 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v96 : BitVec 32 := Scalar.subi v18 c0_i32_54
  let c1_i32_55 : BitVec 32 := 1#32
  let v98 : BitVec 32 := Scalar.divsi v96 c1_i32_55
  let v99 : BitVec 32 := Scalar.muli v98 c1_i32_55
  let v100 : BitVec 32 := Scalar.addi c0_i32_54 v99
  let v97 : BitVec 32 := Scalar.addi c0_i32_54 v96
  let c1_i32_57 : BitVec 32 := 1#32
  ⟨v100, v97, c1_i32_57⟩
def k0_off11 (i : grid0.Coords) (k0_t14 : Fin (k0_t14_loop i).trips) (c0_i32_565 : BitVec 32) : Fin 3 → Nat :=
  let c0_i32_54 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c4_i32 : BitVec 32 := 4#32
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let v1 : BitVec 32 := Scalar.divsi arg1 c4_i32
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let v96 : BitVec 32 := Scalar.subi v18 c0_i32_54
  let c1_i32_55 : BitVec 32 := 1#32
  let v98 : BitVec 32 := Scalar.divsi v96 c1_i32_55
  let v99 : BitVec 32 := Scalar.muli v98 c1_i32_55
  let v100 : BitVec 32 := Scalar.addi c0_i32_54 v99
  let c1_i32_57 : BitVec 32 := 1#32
  let arg19 : BitVec 32 := Scf.iv v100 c1_i32_57 k0_t14
  let c4_i32_564 : BitVec 32 := 4#32
  let v664 : BitVec 32 := Scalar.muli arg19 c4_i32_564
  let v665 : BitVec 32 := Scalar.addi v664 c0_i32_565
  let v666 : Index := Scalar.indexCast v665
  let c0_566 : Index := 0#32
  let c0_567 : Index := 0#32
  ![v666.toNat, 0, 0]
@[reducible] def k0_t15_loop (i : grid0.Coords) : Scf.Loop 32 :=
  let c0_i32_566 : BitVec 32 := 0#32
  let arg1 : BitVec 32 := BitVec.ofNat 32 (i 1).val
  let c1_i32 : BitVec 32 := 1#32
  let v0 : BitVec 32 := Scalar.addi arg1 c1_i32
  let v667 : BitVec 32 := Scalar.subi v0 c0_i32_566
  let c1_i32_567 : BitVec 32 := 1#32
  let v669 : BitVec 32 := Scalar.divsi v667 c1_i32_567
  let v670 : BitVec 32 := Scalar.muli v669 c1_i32_567
  let v671 : BitVec 32 := Scalar.addi c0_i32_566 v670
  let c1_i32_568 : BitVec 32 := 1#32
  ⟨c0_i32_566, v671, c1_i32_568⟩
def k0_off12 (i : grid0.Coords) (k0_t15 : Fin (k0_t15_loop i).trips) : Fin 3 → Nat :=
  let c0_i32_566 : BitVec 32 := 0#32
  let c1_i32_568 : BitVec 32 := 1#32
  let arg19 : BitVec 32 := Scf.iv c0_i32_566 c1_i32_568 k0_t15
  let v674 : Index := Scalar.indexCast arg19
  let c0_570 : Index := 0#32
  let c0_571 : Index := 0#32
  ![v674.toNat, 0, 0]
@[reducible] def k0_t16_loop (i : grid0.Coords) : Scf.Loop 32 :=
  let c0_i32_566 : BitVec 32 := 0#32
  let arg1 : BitVec 32 := BitVec.ofNat 32 (i 1).val
  let c1_i32 : BitVec 32 := 1#32
  let v0 : BitVec 32 := Scalar.addi arg1 c1_i32
  let v667 : BitVec 32 := Scalar.subi v0 c0_i32_566
  let c1_i32_567 : BitVec 32 := 1#32
  let v669 : BitVec 32 := Scalar.divsi v667 c1_i32_567
  let v670 : BitVec 32 := Scalar.muli v669 c1_i32_567
  let v671 : BitVec 32 := Scalar.addi c0_i32_566 v670
  let v668 : BitVec 32 := Scalar.addi c0_i32_566 v667
  let c1_i32_569 : BitVec 32 := 1#32
  ⟨v671, v668, c1_i32_569⟩
def k0_off13 (i : grid0.Coords) (k0_t16 : Fin (k0_t16_loop i).trips) : Fin 3 → Nat :=
  let c0_i32_566 : BitVec 32 := 0#32
  let arg1 : BitVec 32 := BitVec.ofNat 32 (i 1).val
  let c1_i32 : BitVec 32 := 1#32
  let v0 : BitVec 32 := Scalar.addi arg1 c1_i32
  let v667 : BitVec 32 := Scalar.subi v0 c0_i32_566
  let c1_i32_567 : BitVec 32 := 1#32
  let v669 : BitVec 32 := Scalar.divsi v667 c1_i32_567
  let v670 : BitVec 32 := Scalar.muli v669 c1_i32_567
  let v671 : BitVec 32 := Scalar.addi c0_i32_566 v670
  let c1_i32_569 : BitVec 32 := 1#32
  let arg19 : BitVec 32 := Scf.iv v671 c1_i32_569 k0_t16
  let v674 : Index := Scalar.indexCast arg19
  let c0_570 : Index := 0#32
  let c0_571 : Index := 0#32
  ![v674.toNat, 0, 0]
@[reducible] def k0_t17_loop (i : grid0.Coords) : Scf.Loop 32 :=
  let c0_i32_109 : BitVec 32 := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c4_i32_99 : BitVec 32 := 4#32
  let v144 : BitVec 32 := Scalar.addi v143 c4_i32_99
  let c1_i32_100 : BitVec 32 := 1#32
  let v145 : BitVec 32 := Scalar.subi v144 c1_i32_100
  let c0_i32_102 : BitVec 32 := 0#32
  let v147 : BitVec 1 := Scalar.cmpi .sgt v145 c0_i32_102
  let v148 : BitVec 32 := Scalar.extui v147
  let c0_i32_103 : BitVec 32 := 0#32
  let v149 : BitVec 1 := Scalar.cmpi .slt v145 c0_i32_103
  let v150 : BitVec 32 := Scalar.extui v149
  let v151 : BitVec 32 := Scalar.subi v148 v150
  let c4_i32_101 : BitVec 32 := 4#32
  let c0_i32_104 : BitVec 32 := 0#32
  let v152 : BitVec 1 := Scalar.cmpi .sgt c4_i32_101 c0_i32_104
  let v153 : BitVec 32 := Scalar.extui v152
  let c0_i32_105 : BitVec 32 := 0#32
  let v154 : BitVec 1 := Scalar.cmpi .slt c4_i32_101 c0_i32_105
  let v155 : BitVec 32 := Scalar.extui v154
  let v156 : BitVec 32 := Scalar.subi v153 v155
  let v157 : BitVec 1 := Scalar.cmpi .ne v151 v156
  let v158 : BitVec 32 := Scalar.remsi v145 c4_i32_101
  let c0_i32_106 : BitVec 32 := 0#32
  let v159 : BitVec 1 := Scalar.cmpi .ne v158 c0_i32_106
  let v160 : BitVec 1 := Scalar.andi v157 v159
  let v146 : BitVec 32 := Scalar.divsi v145 c4_i32_101
  let c1_i32_107 : BitVec 32 := 1#32
  let v161 : BitVec 32 := Scalar.subi v146 c1_i32_107
  let v162 : BitVec 32 := Scalar.select v160 v161 v146
  let v163 : BitVec 32 := Scalar.subi v162 c0_i32_109
  let c1_i32_110 : BitVec 32 := 1#32
  let v165 : BitVec 32 := Scalar.divsi v163 c1_i32_110
  let v166 : BitVec 32 := Scalar.muli v165 c1_i32_110
  let v167 : BitVec 32 := Scalar.addi c0_i32_109 v166
  let c1_i32_111 : BitVec 32 := 1#32
  ⟨c0_i32_109, v167, c1_i32_111⟩
def k0_off14 (i : grid0.Coords) (k0_t17 : Fin (k0_t17_loop i).trips) (c0_i32_565 : BitVec 32) : Fin 4 → Nat :=
  let c0_568 : Index := 0#32
  let c4_i32_564 : BitVec 32 := 4#32
  let c0_i32_109 : BitVec 32 := 0#32
  let c1_i32_111 : BitVec 32 := 1#32
  let arg19 : BitVec 32 := Scf.iv c0_i32_109 c1_i32_111 k0_t17
  let v664 : BitVec 32 := Scalar.muli c4_i32_564 arg19
  let v665 : BitVec 32 := Scalar.addi v664 c0_i32_565
  let c2_i32_566 : BitVec 32 := 2#32
  let v666 : BitVec 32 := Scalar.subi v665 c2_i32_566
  let c0_i32_567 : BitVec 32 := 0#32
  let v667 : BitVec 32 := Scalar.maxsi v666 c0_i32_567
  let v668 : Index := Scalar.indexCast v667
  let c0_569 : Index := 0#32
  let c0_570 : Index := 0#32
  ![0, v668.toNat, 0, 0]
def k0_off15 (i : grid0.Coords) (k0_t17 : Fin (k0_t17_loop i).trips) (c0_i32_565 : BitVec 32) : Fin 3 → Nat :=
  let c4_i32_564 : BitVec 32 := 4#32
  let c0_i32_109 : BitVec 32 := 0#32
  let c1_i32_111 : BitVec 32 := 1#32
  let arg19 : BitVec 32 := Scf.iv c0_i32_109 c1_i32_111 k0_t17
  let v664 : BitVec 32 := Scalar.muli c4_i32_564 arg19
  let v665 : BitVec 32 := Scalar.addi v664 c0_i32_565
  let arg1 : BitVec 32 := BitVec.ofNat 32 (i 1).val
  let v697 : BitVec 32 := Scalar.minsi v665 arg1
  let v699 : Index := Scalar.indexCast v697
  let c0_609 : Index := 0#32
  let c0_610 : Index := 0#32
  ![v699.toNat, 0, 0]
def k0_off16 (i : grid0.Coords) (k0_t17 : Fin (k0_t17_loop i).trips) (c0_i32_565 : BitVec 32) : Fin 4 → Nat :=
  let c0_613 : Index := 0#32
  let c4_i32_564 : BitVec 32 := 4#32
  let c0_i32_109 : BitVec 32 := 0#32
  let c1_i32_111 : BitVec 32 := 1#32
  let arg19 : BitVec 32 := Scf.iv c0_i32_109 c1_i32_111 k0_t17
  let v664 : BitVec 32 := Scalar.muli c4_i32_564 arg19
  let v665 : BitVec 32 := Scalar.addi v664 c0_i32_565
  let arg1 : BitVec 32 := BitVec.ofNat 32 (i 1).val
  let v697 : BitVec 32 := Scalar.minsi v665 arg1
  let v710 : Index := Scalar.indexCast v697
  let c0_614 : Index := 0#32
  let c0_615 : Index := 0#32
  ![0, v710.toNat, 0, 0]
@[reducible] def k0_t18_loop (i : grid0.Coords) : Scf.Loop 32 :=
  let c0_i32_109 : BitVec 32 := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c4_i32_99 : BitVec 32 := 4#32
  let v144 : BitVec 32 := Scalar.addi v143 c4_i32_99
  let c1_i32_100 : BitVec 32 := 1#32
  let v145 : BitVec 32 := Scalar.subi v144 c1_i32_100
  let c0_i32_102 : BitVec 32 := 0#32
  let v147 : BitVec 1 := Scalar.cmpi .sgt v145 c0_i32_102
  let v148 : BitVec 32 := Scalar.extui v147
  let c0_i32_103 : BitVec 32 := 0#32
  let v149 : BitVec 1 := Scalar.cmpi .slt v145 c0_i32_103
  let v150 : BitVec 32 := Scalar.extui v149
  let v151 : BitVec 32 := Scalar.subi v148 v150
  let c4_i32_101 : BitVec 32 := 4#32
  let c0_i32_104 : BitVec 32 := 0#32
  let v152 : BitVec 1 := Scalar.cmpi .sgt c4_i32_101 c0_i32_104
  let v153 : BitVec 32 := Scalar.extui v152
  let c0_i32_105 : BitVec 32 := 0#32
  let v154 : BitVec 1 := Scalar.cmpi .slt c4_i32_101 c0_i32_105
  let v155 : BitVec 32 := Scalar.extui v154
  let v156 : BitVec 32 := Scalar.subi v153 v155
  let v157 : BitVec 1 := Scalar.cmpi .ne v151 v156
  let v158 : BitVec 32 := Scalar.remsi v145 c4_i32_101
  let c0_i32_106 : BitVec 32 := 0#32
  let v159 : BitVec 1 := Scalar.cmpi .ne v158 c0_i32_106
  let v160 : BitVec 1 := Scalar.andi v157 v159
  let v146 : BitVec 32 := Scalar.divsi v145 c4_i32_101
  let c1_i32_107 : BitVec 32 := 1#32
  let v161 : BitVec 32 := Scalar.subi v146 c1_i32_107
  let v162 : BitVec 32 := Scalar.select v160 v161 v146
  let v163 : BitVec 32 := Scalar.subi v162 c0_i32_109
  let c1_i32_110 : BitVec 32 := 1#32
  let v165 : BitVec 32 := Scalar.divsi v163 c1_i32_110
  let v166 : BitVec 32 := Scalar.muli v165 c1_i32_110
  let v167 : BitVec 32 := Scalar.addi c0_i32_109 v166
  let v164 : BitVec 32 := Scalar.addi c0_i32_109 v163
  let c1_i32_112 : BitVec 32 := 1#32
  ⟨v167, v164, c1_i32_112⟩
def k0_off17 (i : grid0.Coords) (k0_t18 : Fin (k0_t18_loop i).trips) (c0_i32_565 : BitVec 32) : Fin 4 → Nat :=
  let c0_568 : Index := 0#32
  let c4_i32_564 : BitVec 32 := 4#32
  let c0_i32_109 : BitVec 32 := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c4_i32_99 : BitVec 32 := 4#32
  let v144 : BitVec 32 := Scalar.addi v143 c4_i32_99
  let c1_i32_100 : BitVec 32 := 1#32
  let v145 : BitVec 32 := Scalar.subi v144 c1_i32_100
  let c0_i32_102 : BitVec 32 := 0#32
  let v147 : BitVec 1 := Scalar.cmpi .sgt v145 c0_i32_102
  let v148 : BitVec 32 := Scalar.extui v147
  let c0_i32_103 : BitVec 32 := 0#32
  let v149 : BitVec 1 := Scalar.cmpi .slt v145 c0_i32_103
  let v150 : BitVec 32 := Scalar.extui v149
  let v151 : BitVec 32 := Scalar.subi v148 v150
  let c4_i32_101 : BitVec 32 := 4#32
  let c0_i32_104 : BitVec 32 := 0#32
  let v152 : BitVec 1 := Scalar.cmpi .sgt c4_i32_101 c0_i32_104
  let v153 : BitVec 32 := Scalar.extui v152
  let c0_i32_105 : BitVec 32 := 0#32
  let v154 : BitVec 1 := Scalar.cmpi .slt c4_i32_101 c0_i32_105
  let v155 : BitVec 32 := Scalar.extui v154
  let v156 : BitVec 32 := Scalar.subi v153 v155
  let v157 : BitVec 1 := Scalar.cmpi .ne v151 v156
  let v158 : BitVec 32 := Scalar.remsi v145 c4_i32_101
  let c0_i32_106 : BitVec 32 := 0#32
  let v159 : BitVec 1 := Scalar.cmpi .ne v158 c0_i32_106
  let v160 : BitVec 1 := Scalar.andi v157 v159
  let v146 : BitVec 32 := Scalar.divsi v145 c4_i32_101
  let c1_i32_107 : BitVec 32 := 1#32
  let v161 : BitVec 32 := Scalar.subi v146 c1_i32_107
  let v162 : BitVec 32 := Scalar.select v160 v161 v146
  let v163 : BitVec 32 := Scalar.subi v162 c0_i32_109
  let c1_i32_110 : BitVec 32 := 1#32
  let v165 : BitVec 32 := Scalar.divsi v163 c1_i32_110
  let v166 : BitVec 32 := Scalar.muli v165 c1_i32_110
  let v167 : BitVec 32 := Scalar.addi c0_i32_109 v166
  let c1_i32_112 : BitVec 32 := 1#32
  let arg19 : BitVec 32 := Scf.iv v167 c1_i32_112 k0_t18
  let v664 : BitVec 32 := Scalar.muli c4_i32_564 arg19
  let v665 : BitVec 32 := Scalar.addi v664 c0_i32_565
  let c2_i32_566 : BitVec 32 := 2#32
  let v666 : BitVec 32 := Scalar.subi v665 c2_i32_566
  let c0_i32_567 : BitVec 32 := 0#32
  let v667 : BitVec 32 := Scalar.maxsi v666 c0_i32_567
  let v668 : Index := Scalar.indexCast v667
  let c0_569 : Index := 0#32
  let c0_570 : Index := 0#32
  ![0, v668.toNat, 0, 0]
def k0_off18 (i : grid0.Coords) (k0_t18 : Fin (k0_t18_loop i).trips) (c0_i32_565 : BitVec 32) : Fin 3 → Nat :=
  let c4_i32_564 : BitVec 32 := 4#32
  let c0_i32_109 : BitVec 32 := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c4_i32_99 : BitVec 32 := 4#32
  let v144 : BitVec 32 := Scalar.addi v143 c4_i32_99
  let c1_i32_100 : BitVec 32 := 1#32
  let v145 : BitVec 32 := Scalar.subi v144 c1_i32_100
  let c0_i32_102 : BitVec 32 := 0#32
  let v147 : BitVec 1 := Scalar.cmpi .sgt v145 c0_i32_102
  let v148 : BitVec 32 := Scalar.extui v147
  let c0_i32_103 : BitVec 32 := 0#32
  let v149 : BitVec 1 := Scalar.cmpi .slt v145 c0_i32_103
  let v150 : BitVec 32 := Scalar.extui v149
  let v151 : BitVec 32 := Scalar.subi v148 v150
  let c4_i32_101 : BitVec 32 := 4#32
  let c0_i32_104 : BitVec 32 := 0#32
  let v152 : BitVec 1 := Scalar.cmpi .sgt c4_i32_101 c0_i32_104
  let v153 : BitVec 32 := Scalar.extui v152
  let c0_i32_105 : BitVec 32 := 0#32
  let v154 : BitVec 1 := Scalar.cmpi .slt c4_i32_101 c0_i32_105
  let v155 : BitVec 32 := Scalar.extui v154
  let v156 : BitVec 32 := Scalar.subi v153 v155
  let v157 : BitVec 1 := Scalar.cmpi .ne v151 v156
  let v158 : BitVec 32 := Scalar.remsi v145 c4_i32_101
  let c0_i32_106 : BitVec 32 := 0#32
  let v159 : BitVec 1 := Scalar.cmpi .ne v158 c0_i32_106
  let v160 : BitVec 1 := Scalar.andi v157 v159
  let v146 : BitVec 32 := Scalar.divsi v145 c4_i32_101
  let c1_i32_107 : BitVec 32 := 1#32
  let v161 : BitVec 32 := Scalar.subi v146 c1_i32_107
  let v162 : BitVec 32 := Scalar.select v160 v161 v146
  let v163 : BitVec 32 := Scalar.subi v162 c0_i32_109
  let c1_i32_110 : BitVec 32 := 1#32
  let v165 : BitVec 32 := Scalar.divsi v163 c1_i32_110
  let v166 : BitVec 32 := Scalar.muli v165 c1_i32_110
  let v167 : BitVec 32 := Scalar.addi c0_i32_109 v166
  let c1_i32_112 : BitVec 32 := 1#32
  let arg19 : BitVec 32 := Scf.iv v167 c1_i32_112 k0_t18
  let v664 : BitVec 32 := Scalar.muli c4_i32_564 arg19
  let v665 : BitVec 32 := Scalar.addi v664 c0_i32_565
  let v697 : BitVec 32 := Scalar.minsi v665 arg1
  let v699 : Index := Scalar.indexCast v697
  let c0_609 : Index := 0#32
  let c0_610 : Index := 0#32
  ![v699.toNat, 0, 0]
def k0_off19 (i : grid0.Coords) (k0_t18 : Fin (k0_t18_loop i).trips) (c0_i32_565 : BitVec 32) : Fin 4 → Nat :=
  let c0_613 : Index := 0#32
  let c4_i32_564 : BitVec 32 := 4#32
  let c0_i32_109 : BitVec 32 := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c4_i32_99 : BitVec 32 := 4#32
  let v144 : BitVec 32 := Scalar.addi v143 c4_i32_99
  let c1_i32_100 : BitVec 32 := 1#32
  let v145 : BitVec 32 := Scalar.subi v144 c1_i32_100
  let c0_i32_102 : BitVec 32 := 0#32
  let v147 : BitVec 1 := Scalar.cmpi .sgt v145 c0_i32_102
  let v148 : BitVec 32 := Scalar.extui v147
  let c0_i32_103 : BitVec 32 := 0#32
  let v149 : BitVec 1 := Scalar.cmpi .slt v145 c0_i32_103
  let v150 : BitVec 32 := Scalar.extui v149
  let v151 : BitVec 32 := Scalar.subi v148 v150
  let c4_i32_101 : BitVec 32 := 4#32
  let c0_i32_104 : BitVec 32 := 0#32
  let v152 : BitVec 1 := Scalar.cmpi .sgt c4_i32_101 c0_i32_104
  let v153 : BitVec 32 := Scalar.extui v152
  let c0_i32_105 : BitVec 32 := 0#32
  let v154 : BitVec 1 := Scalar.cmpi .slt c4_i32_101 c0_i32_105
  let v155 : BitVec 32 := Scalar.extui v154
  let v156 : BitVec 32 := Scalar.subi v153 v155
  let v157 : BitVec 1 := Scalar.cmpi .ne v151 v156
  let v158 : BitVec 32 := Scalar.remsi v145 c4_i32_101
  let c0_i32_106 : BitVec 32 := 0#32
  let v159 : BitVec 1 := Scalar.cmpi .ne v158 c0_i32_106
  let v160 : BitVec 1 := Scalar.andi v157 v159
  let v146 : BitVec 32 := Scalar.divsi v145 c4_i32_101
  let c1_i32_107 : BitVec 32 := 1#32
  let v161 : BitVec 32 := Scalar.subi v146 c1_i32_107
  let v162 : BitVec 32 := Scalar.select v160 v161 v146
  let v163 : BitVec 32 := Scalar.subi v162 c0_i32_109
  let c1_i32_110 : BitVec 32 := 1#32
  let v165 : BitVec 32 := Scalar.divsi v163 c1_i32_110
  let v166 : BitVec 32 := Scalar.muli v165 c1_i32_110
  let v167 : BitVec 32 := Scalar.addi c0_i32_109 v166
  let c1_i32_112 : BitVec 32 := 1#32
  let arg19 : BitVec 32 := Scf.iv v167 c1_i32_112 k0_t18
  let v664 : BitVec 32 := Scalar.muli c4_i32_564 arg19
  let v665 : BitVec 32 := Scalar.addi v664 c0_i32_565
  let v697 : BitVec 32 := Scalar.minsi v665 arg1
  let v710 : Index := Scalar.indexCast v697
  let c0_614 : Index := 0#32
  let c0_615 : Index := 0#32
  ![0, v710.toNat, 0, 0]
def k0_off20 (i : grid0.Coords) (c2_i32_115 : BitVec 32) : Fin 4 → Nat :=
  let c0_118 : Index := 0#32
  let c4_i32_113 : BitVec 32 := 4#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c4_i32_99 : BitVec 32 := 4#32
  let v144 : BitVec 32 := Scalar.addi v143 c4_i32_99
  let c1_i32_100 : BitVec 32 := 1#32
  let v145 : BitVec 32 := Scalar.subi v144 c1_i32_100
  let c0_i32_102 : BitVec 32 := 0#32
  let v147 : BitVec 1 := Scalar.cmpi .sgt v145 c0_i32_102
  let v148 : BitVec 32 := Scalar.extui v147
  let c0_i32_103 : BitVec 32 := 0#32
  let v149 : BitVec 1 := Scalar.cmpi .slt v145 c0_i32_103
  let v150 : BitVec 32 := Scalar.extui v149
  let v151 : BitVec 32 := Scalar.subi v148 v150
  let c4_i32_101 : BitVec 32 := 4#32
  let c0_i32_104 : BitVec 32 := 0#32
  let v152 : BitVec 1 := Scalar.cmpi .sgt c4_i32_101 c0_i32_104
  let v153 : BitVec 32 := Scalar.extui v152
  let c0_i32_105 : BitVec 32 := 0#32
  let v154 : BitVec 1 := Scalar.cmpi .slt c4_i32_101 c0_i32_105
  let v155 : BitVec 32 := Scalar.extui v154
  let v156 : BitVec 32 := Scalar.subi v153 v155
  let v157 : BitVec 1 := Scalar.cmpi .ne v151 v156
  let v158 : BitVec 32 := Scalar.remsi v145 c4_i32_101
  let c0_i32_106 : BitVec 32 := 0#32
  let v159 : BitVec 1 := Scalar.cmpi .ne v158 c0_i32_106
  let v160 : BitVec 1 := Scalar.andi v157 v159
  let v146 : BitVec 32 := Scalar.divsi v145 c4_i32_101
  let c1_i32_107 : BitVec 32 := 1#32
  let v161 : BitVec 32 := Scalar.subi v146 c1_i32_107
  let v162 : BitVec 32 := Scalar.select v160 v161 v146
  let v168 : BitVec 32 := Scalar.muli c4_i32_113 v162
  let v170 : BitVec 32 := Scalar.subi v168 c2_i32_115
  let v171 : BitVec 32 := Scalar.minsi v170 arg1
  let c0_i32_117 : BitVec 32 := 0#32
  let v174 : BitVec 32 := Scalar.maxsi v171 c0_i32_117
  let v175 : Index := Scalar.indexCast v174
  let c0_119 : Index := 0#32
  let c0_120 : Index := 0#32
  ![0, v175.toNat, 0, 0]
def k0_off21 (i : grid0.Coords) : Fin 3 → Nat :=
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let v204 : Index := Scalar.indexCast v143
  let c0_159 : Index := 0#32
  let c0_160 : Index := 0#32
  ![v204.toNat, 0, 0]
def k0_off22 (i : grid0.Coords) : Fin 4 → Nat :=
  let c0_163 : Index := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let v223 : Index := Scalar.indexCast v143
  let c0_164 : Index := 0#32
  let c0_165 : Index := 0#32
  ![0, v223.toNat, 0, 0]
def k0_off23 (i : grid0.Coords) : Fin 3 → Nat :=
  let arg1 : BitVec 32 := BitVec.ofNat 32 (i 1).val
  let v322 : Index := Scalar.indexCast arg1
  let c0_274 : Index := 0#32
  let c0_275 : Index := 0#32
  ![v322.toNat, 0, 0]
def k0_off24 (i : grid0.Coords) : Fin 4 → Nat :=
  let c0_278 : Index := 0#32
  let arg1 : BitVec 32 := BitVec.ofNat 32 (i 1).val
  let v339 : Index := Scalar.indexCast arg1
  let c0_279 : Index := 0#32
  let c0_280 : Index := 0#32
  ![0, v339.toNat, 0, 0]
def k0_off25 (i : grid0.Coords) : Fin 4 → Nat :=
  let c0_348 : Index := 0#32
  let arg1 : BitVec 32 := BitVec.ofNat 32 (i 1).val
  let c1_i32_97 : BitVec 32 := 1#32
  let v142 : BitVec 32 := Scalar.subi arg1 c1_i32_97
  let c0_i32_98 : BitVec 32 := 0#32
  let v143 : BitVec 32 := Scalar.maxsi v142 c0_i32_98
  let c0_i32_347 : BitVec 32 := 0#32
  let v408 : BitVec 32 := Scalar.maxsi v143 c0_i32_347
  let v409 : Index := Scalar.indexCast v408
  let c0_349 : Index := 0#32
  let c0_350 : Index := 0#32
  ![0, v409.toNat, 0, 0]
def k0_off26 (i : grid0.Coords) : Fin 4 → Nat :=
  let c0_442 : Index := 0#32
  let arg1 : BitVec 32 := BitVec.ofNat 32 (i 1).val
  let c0_i32_441 : BitVec 32 := 0#32
  let v490 : BitVec 32 := Scalar.maxsi arg1 c0_i32_441
  let v491 : Index := Scalar.indexCast v490
  let c0_443 : Index := 0#32
  let c0_444 : Index := 0#32
  ![0, v491.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x80x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2.lean ====
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024x1024, .bf16⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 32
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x4096, .f32⟩
  | .hbm, ⟨26, _⟩ => ⟨S_, .f32⟩
  | .hbm, ⟨27, _⟩ => ⟨S65536x4096, .f32⟩
  | .hbm, ⟨28, _⟩ => ⟨S65536x4096, .f32⟩
  | .hbm, ⟨29, _⟩ => ⟨S65536x4096, .f32⟩
  | .hbm, ⟨30, _⟩ => ⟨S65536x1024, .f32⟩
  | .hbm, ⟨31, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel3.lean ====
abbrev S16x4096x2048 : Shape := ⟨3, ![16, 4096, 2048]⟩
abbrev S16x4096x1024 : Shape := ⟨3, ![16, 4096, 1024]⟩
abbrev S512x128x16x64 : Shape := ⟨4, ![512, 128, 16, 64]⟩
abbrev S512x16x64x128 : Shape := ⟨4, ![512, 16, 64, 128]⟩
abbrev S_ : Shape := ⟨0, ![]⟩
abbrev S512x16x1x128 : Shape := ⟨4, ![512, 16, 1, 128]⟩
abbrev S512x16x15x128 : Shape := ⟨4, ![512, 16, 15, 128]⟩
abbrev S512x16x80x128 : Shape := ⟨4, ![512, 16, 80, 128]⟩
abbrev S512x1280x128 : Shape := ⟨3, ![512, 1280, 128]⟩
abbrev S16x32x1280x128 : Shape := ⟨4, ![16, 32, 1280, 128]⟩
abbrev S1x4096x256 : Shape := ⟨3, ![1, 4096, 256]⟩
abbrev S1x32x160x128 : Shape := ⟨4, ![1, 32, 160, 128]⟩
abbrev S1x4096x128 : Shape := ⟨3, ![1, 4096, 128]⟩
abbrev S2x2x4x256x256 : Shape := ⟨5, ![2, 2, 4, 256, 256]⟩
abbrev S2x2x4x1x256 : Shape := ⟨5, ![2, 2, 4, 1, 256]⟩
abbrev S2x4x1x256 : Shape := ⟨4, ![2, 4, 1, 256]⟩
abbrev S2x4x80x256 : Shape := ⟨4, ![2, 4, 80, 256]⟩
abbrev S256x256 : Shape := ⟨2, ![256, 256]⟩
abbrev S1x1024x128 : Shape := ⟨3, ![1, 1024, 128]⟩
abbrev S1024x128 : Shape := ⟨2, ![1024, 128]⟩
abbrev S2x4x256x256 : Shape := ⟨4, ![2, 4, 256, 256]⟩
abbrev S1x2x4x256x256 : Shape := ⟨5, ![1, 2, 4, 256, 256]⟩
abbrev S1x2x4x1x256 : Shape := ⟨5, ![1, 2, 4, 1, 256]⟩
abbrev S1x1x80x128 : Shape := ⟨4, ![1, 1, 80, 128]⟩
abbrev S80x128 : Shape := ⟨2, ![80, 128]⟩
abbrev S80x256 : Shape := ⟨2, ![80, 256]⟩
abbrev S1x1x80x256 : Shape := ⟨4, ![1, 1, 80, 256]⟩
abbrev S1x1x1x1x256 : Shape := ⟨5, ![1, 1, 1, 1, 256]⟩
abbrev S1x256 : Shape := ⟨2, ![1, 256]⟩
abbrev S1x1x1x256x256 : Shape := ⟨5, ![1, 1, 1, 256, 256]⟩
abbrev S1x256x128 : Shape := ⟨3, ![1, 256, 128]⟩
abbrev S256x128 : Shape := ⟨2, ![256, 128]⟩
abbrev S256x1024 : Shape := ⟨2, ![256, 1024]⟩
abbrev S1x1x1x256 : Shape := ⟨4, ![1, 1, 1, 256]⟩
abbrev S256 : Shape := ⟨1, ![256]⟩
abbrev S768x128 : Shape := ⟨2, ![768, 128]⟩
abbrev S256x768 : Shape := ⟨2, ![256, 768]⟩
abbrev S512x128 : Shape := ⟨2, ![512, 128]⟩
abbrev S256x512 : Shape := ⟨2, ![256, 512]⟩
abbrev S64x256 : Shape := ⟨2, ![64, 256]⟩
abbrev S128x256 : Shape := ⟨2, ![128, 256]⟩

abbrev nBuf : Space → Nat
  | .hbm => 13
  | .vmem => 13
  | .smem => 0
  | _ => 0

abbrev bufTy : (tb : Table) → Fin (tcTables nBuf tb) → BufTy
  | .hbm, ⟨0, _⟩ => ⟨S16x4096x2048, .bf16⟩
  | .hbm, ⟨1, _⟩ => ⟨S16x4096x2048, .bf16⟩
  | .hbm, ⟨2, _⟩ => ⟨S16x4096x1024, .bf16⟩
  | .hbm, ⟨3, _⟩ => ⟨S512x128x16x64, .bf16⟩
  | .hbm, ⟨4, _⟩ => ⟨S512x16x64x128, .bf16⟩
  | .hbm, ⟨5, _⟩ => ⟨S_, .bf16⟩
  | .hbm, ⟨6, _⟩ => ⟨S512x16x1x128, .bf16⟩
  | .hbm, ⟨7, _⟩ => ⟨S_, .bf16⟩
  | .hbm, ⟨8, _⟩ => ⟨S512x16x15x128, .bf16⟩
  | .hbm, ⟨9, _⟩ => ⟨S512x16x80x128, .bf16⟩
  | .hbm, ⟨10, _⟩ => ⟨S512x1280x128, .bf16⟩
  | .hbm, ⟨11, _⟩ => ⟨S16x32x1280x128, .bf16⟩
  | .hbm, ⟨12, _⟩ => ⟨S16x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x32x160x128, .bf16⟩
  | .local _ .vmem, ⟨5, _⟩ => ⟨S1x32x160x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S2x2x4x256x256, .f32⟩
  | .local _ .vmem, ⟨9, _⟩ => ⟨S2x2x4x256x256, .bf16⟩
  | .local _ .vmem, ⟨10, _⟩ => ⟨S2x2x4x1x256, .f32⟩
  | .local _ .vmem, ⟨11, _⟩ => ⟨S2x4x1x256, .f32⟩
  | .local _ .vmem, ⟨12, _⟩ => ⟨S2x4x80x256, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  v4
def k0_off1 (k0_t1 : Fin k0_t1_loop.trips) : Fin 3 → Nat :=
  let c0 : Index := 0#32
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let v6 : Index := Scalar.indexCast v5
  let c0_1 : Index := 0#32
  ![0, v6.toNat, 0]
def k0_off2 (k0_t1 : Fin k0_t1_loop.trips) : Fin 3 → Nat :=
  let c0_2 : Index := 0#32
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let v9 : Index := Scalar.indexCast v5
  let c128 : Index := 128#32
  ![0, v9.toNat, 128]
@[reducible] def k0_t2_loop (k0_t1 : Fin k0_t1_loop.trips) : Scf.Loop 32 :=
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_33 : BitVec 32 := 1#32
  ⟨c0_i32_31, v37, c1_i32_33⟩
def k0_off3 (k0_t1 : Fin k0_t1_loop.trips) (k0_t2 : Fin (k0_t2_loop k0_t1).trips) (c0_i32_1761 : BitVec 32) (c0_i32_1765 : BitVec 32) : Fin 4 → Nat :=
  let c0_1766 : Index := 0#32
  let c4_i32_1760 : BitVec 32 := 4#32
  let c0_i32_31 : BitVec 32 := 0#32
  let c1_i32_33 : BitVec 32 := 1#32
  let arg12 : BitVec 32 := Scf.iv c0_i32_31 c1_i32_33 k0_t2
  let v1612 : BitVec 32 := Scalar.muli c4_i32_1760 arg12
  let v1613 : BitVec 32 := Scalar.addi v1612 c0_i32_1761
  let c2_i32_1762 : BitVec 32 := 2#32
  let v1614 : BitVec 32 := Scalar.subi v1613 c2_i32_1762
  let c0_i32_1763 : BitVec 32 := 0#32
  let v1615 : BitVec 32 := Scalar.maxsi v1614 c0_i32_1763
  let c2_i32_1764 : BitVec 32 := 2#32
  let v1616 : BitVec 32 := Scalar.muli v1615 c2_i32_1764
  let v1617 : BitVec 32 := Scalar.addi v1616 c0_i32_1765
  let v1618 : Index := Scalar.indexCast v1617
  let c0_1767 : Index := 0#32
  let c0_1768 : Index := 0#32
  ![0, v1618.toNat, 0, 0]
def k0_off4 (k0_t1 : Fin k0_t1_loop.trips) (k0_t2 : Fin (k0_t2_loop k0_t1).trips) (c0_i32_1761 : BitVec 32) (c0_i32_1775 : BitVec 32) : Fin 4 → Nat :=
  let c0_1776 : Index := 0#32
  let c4_i32_1760 : BitVec 32 := 4#32
  let c0_i32_31 : BitVec 32 := 0#32
  let c1_i32_33 : BitVec 32 := 1#32
  let arg12 : BitVec 32 := Scf.iv c0_i32_31 c1_i32_33 k0_t2
  let v1612 : BitVec 32 := Scalar.muli c4_i32_1760 arg12
  let v1613 : BitVec 32 := Scalar.addi v1612 c0_i32_1761
  let c2_i32_1762 : BitVec 32 := 2#32
  let v1614 : BitVec 32 := Scalar.subi v1613 c2_i32_1762
  let c0_i32_1763 : BitVec 32 := 0#32
  let v1615 : BitVec 32 := Scalar.maxsi v1614 c0_i32_1763
  let c2_i32_1774 : BitVec 32 := 2#32
  let v1627 : BitVec 32 := Scalar.muli v1615 c2_i32_1774
  let v1628 : BitVec 32 := Scalar.addi v1627 c0_i32_1775
  let v1629 : Index := Scalar.indexCast v1628
  let c80_1777 : Index := 80#32
  let c0_1778 : Index := 0#32
  ![0, v1629.toNat, 80, 0]
def k0_mult2 (k0_t1 : Fin k0_t1_loop.trips) (k0_t2 : Fin (k0_t2_loop k0_t1).trips) : BitVec 32 :=
  let c4_i32_1760 : BitVec 32 := 4#32
  let c0_i32_31 : BitVec 32 := 0#32
  let c1_i32_33 : BitVec 32 := 1#32
  let arg12 : BitVec 32 := Scf.iv c0_i32_31 c1_i32_33 k0_t2
  let v1612 : BitVec 32 := Scalar.muli c4_i32_1760 arg12
  let c0_i32_1761 : BitVec 32 := 0#32
  let v1613 : BitVec 32 := Scalar.addi v1612 c0_i32_1761
  let c256_i32_1936 : BitVec 32 := 256#32
  let v1742 : BitVec 32 := Scalar.muli v1613 c256_i32_1936
  v1742
def k0_off5 (k0_t1 : Fin k0_t1_loop.trips) (k0_t2 : Fin (k0_t2_loop k0_t1).trips) (c0_i32_1761 : BitVec 32) : Fin 3 → Nat :=
  let c0_1937 : Index := 0#32
  let c4_i32_1760 : BitVec 32 := 4#32
  let c0_i32_31 : BitVec 32 := 0#32
  let c1_i32_33 : BitVec 32 := 1#32
  let arg12 : BitVec 32 := Scf.iv c0_i32_31 c1_i32_33 k0_t2
  let v1612 : BitVec 32 := Scalar.muli c4_i32_1760 arg12
  let v1613 : BitVec 32 := Scalar.addi v1612 c0_i32_1761
  let c256_i32_1936 : BitVec 32 := 256#32
  let v1742 : BitVec 32 := Scalar.muli v1613 c256_i32_1936
  let v1743 : BitVec 32 := v1742
  let v1744 : Index := Scalar.indexCast v1743
  let c0_1938 : Index := 0#32
  ![0, v1744.toNat, 0]
def k0_off6 (k0_t1 : Fin k0_t1_loop.trips) (k0_t2 : Fin (k0_t2_loop k0_t1).trips) (c0_i32_1761 : BitVec 32) : Fin 3 → Nat :=
  let c0_1960 : Index := 0#32
  let c4_i32_1760 : BitVec 32 := 4#32
  let c0_i32_31 : BitVec 32 := 0#32
  let c1_i32_33 : BitVec 32 := 1#32
  let arg12 : BitVec 32 := Scf.iv c0_i32_31 c1_i32_33 k0_t2
  let v1612 : BitVec 32 := Scalar.muli c4_i32_1760 arg12
  let v1613 : BitVec 32 := Scalar.addi v1612 c0_i32_1761
  let c256_i32_1936 : BitVec 32 := 256#32
  let v1742 : BitVec 32 := Scalar.muli v1613 c256_i32_1936
  let v1743 : BitVec 32 := v1742
  let v1764 : Index := Scalar.indexCast v1743
  let c128_1961 : Index := 128#32
  ![0, v1764.toNat, 128]
def k0_mult3 (k0_t1 : Fin k0_t1_loop.trips) (k0_t2 : Fin (k0_t2_loop k0_t1).trips) : BitVec 32 :=
  let c4_i32_2191 : BitVec 32 := 4#32
  let c0_i32_31 : BitVec 32 := 0#32
  let c1_i32_33 : BitVec 32 := 1#32
  let arg12 : BitVec 32 := Scf.iv c0_i32_31 c1_i32_33 k0_t2
  let v1992 : BitVec 32 := Scalar.muli c4_i32_2191 arg12
  let c1_i32_2192 : BitVec 32 := 1#32
  let v1993 : BitVec 32 := Scalar.addi v1992 c1_i32_2192
  let c256_i32_2367 : BitVec 32 := 256#32
  let v2122 : BitVec 32 := Scalar.muli v1993 c256_i32_2367
  v2122
def k0_mult4 (k0_t1 : Fin k0_t1_loop.trips) (k0_t2 : Fin (k0_t2_loop k0_t1).trips) : BitVec 32 :=
  let c4_i32_2622 : BitVec 32 := 4#32
  let c0_i32_31 : BitVec 32 := 0#32
  let c1_i32_33 : BitVec 32 := 1#32
  let arg12 : BitVec 32 := Scf.iv c0_i32_31 c1_i32_33 k0_t2
  let v2372 : BitVec 32 := Scalar.muli c4_i32_2622 arg12
  let c2_i32_2623 : BitVec 32 := 2#32
  let v2373 : BitVec 32 := Scalar.addi v2372 c2_i32_2623
  let c256_i32_2798 : BitVec 32 := 256#32
  let v2502 : BitVec 32 := Scalar.muli v2373 c256_i32_2798
  v2502
def k0_mult5 (k0_t1 : Fin k0_t1_loop.trips) (k0_t2 : Fin (k0_t2_loop k0_t1).trips) : BitVec 32 :=
  let c4_i32_3053 : BitVec 32 := 4#32
  let c0_i32_31 : BitVec 32 := 0#32
  let c1_i32_33 : BitVec 32 := 1#32
  let arg12 : BitVec 32 := Scf.iv c0_i32_31 c1_i32_33 k0_t2
  let v2752 : BitVec 32 := Scalar.muli c4_i32_3053 arg12
  let c3_i32_3054 : BitVec 32 := 3#32
  let v2753 : BitVec 32 := Scalar.addi v2752 c3_i32_3054
  let c256_i32_3229 : BitVec 32 := 256#32
  let v2882 : BitVec 32 := Scalar.muli v2753 c256_i32_3229
  v2882
@[reducible] def k0_t3_loop (k0_t1 : Fin k0_t1_loop.trips) : Scf.Loop 32 :=
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let v34 : BitVec 32 := Scalar.addi c0_i32_31 v33
  let c1_i32_34 : BitVec 32 := 1#32
  ⟨v37, v34, c1_i32_34⟩
def k0_off7 (k0_t1 : Fin k0_t1_loop.trips) (k0_t3 : Fin (k0_t3_loop k0_t1).trips) (c0_i32_1761 : BitVec 32) (c0_i32_1765 : BitVec 32) : Fin 4 → Nat :=
  let c0_1766 : Index := 0#32
  let c4_i32_1760 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v1612 : BitVec 32 := Scalar.muli c4_i32_1760 arg12
  let v1613 : BitVec 32 := Scalar.addi v1612 c0_i32_1761
  let c2_i32_1762 : BitVec 32 := 2#32
  let v1614 : BitVec 32 := Scalar.subi v1613 c2_i32_1762
  let c0_i32_1763 : BitVec 32 := 0#32
  let v1615 : BitVec 32 := Scalar.maxsi v1614 c0_i32_1763
  let c2_i32_1764 : BitVec 32 := 2#32
  let v1616 : BitVec 32 := Scalar.muli v1615 c2_i32_1764
  let v1617 : BitVec 32 := Scalar.addi v1616 c0_i32_1765
  let v1618 : Index := Scalar.indexCast v1617
  let c0_1767 : Index := 0#32
  let c0_1768 : Index := 0#32
  ![0, v1618.toNat, 0, 0]
def k0_off8 (k0_t1 : Fin k0_t1_loop.trips) (k0_t3 : Fin (k0_t3_loop k0_t1).trips) (c0_i32_1761 : BitVec 32) (c0_i32_1775 : BitVec 32) : Fin 4 → Nat :=
  let c0_1776 : Index := 0#32
  let c4_i32_1760 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v1612 : BitVec 32 := Scalar.muli c4_i32_1760 arg12
  let v1613 : BitVec 32 := Scalar.addi v1612 c0_i32_1761
  let c2_i32_1762 : BitVec 32 := 2#32
  let v1614 : BitVec 32 := Scalar.subi v1613 c2_i32_1762
  let c0_i32_1763 : BitVec 32 := 0#32
  let v1615 : BitVec 32 := Scalar.maxsi v1614 c0_i32_1763
  let c2_i32_1774 : BitVec 32 := 2#32
  let v1627 : BitVec 32 := Scalar.muli v1615 c2_i32_1774
  let v1628 : BitVec 32 := Scalar.addi v1627 c0_i32_1775
  let v1629 : Index := Scalar.indexCast v1628
  let c80_1777 : Index := 80#32
  let c0_1778 : Index := 0#32
  ![0, v1629.toNat, 80, 0]
def k0_mult6 (k0_t1 : Fin k0_t1_loop.trips) (k0_t3 : Fin (k0_t3_loop k0_t1).trips) : BitVec 32 :=
  let c4_i32_1760 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v1612 : BitVec 32 := Scalar.muli c4_i32_1760 arg12
  let c0_i32_1761 : BitVec 32 := 0#32
  let v1613 : BitVec 32 := Scalar.addi v1612 c0_i32_1761
  let c256_i32_1936 : BitVec 32 := 256#32
  let v1742 : BitVec 32 := Scalar.muli v1613 c256_i32_1936
  v1742
def k0_off9 (k0_t1 : Fin k0_t1_loop.trips) (k0_t3 : Fin (k0_t3_loop k0_t1).trips) (c0_i32_1761 : BitVec 32) : Fin 3 → Nat :=
  let c0_1937 : Index := 0#32
  let c4_i32_1760 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v1612 : BitVec 32 := Scalar.muli c4_i32_1760 arg12
  let v1613 : BitVec 32 := Scalar.addi v1612 c0_i32_1761
  let c256_i32_1936 : BitVec 32 := 256#32
  let v1742 : BitVec 32 := Scalar.muli v1613 c256_i32_1936
  let v1743 : BitVec 32 := v1742
  let v1744 : Index := Scalar.indexCast v1743
  let c0_1938 : Index := 0#32
  ![0, v1744.toNat, 0]
def k0_off10 (k0_t1 : Fin k0_t1_loop.trips) (k0_t3 : Fin (k0_t3_loop k0_t1).trips) (c0_i32_1761 : BitVec 32) : Fin 3 → Nat :=
  let c0_1960 : Index := 0#32
  let c4_i32_1760 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v1612 : BitVec 32 := Scalar.muli c4_i32_1760 arg12
  let v1613 : BitVec 32 := Scalar.addi v1612 c0_i32_1761
  let c256_i32_1936 : BitVec 32 := 256#32
  let v1742 : BitVec 32 := Scalar.muli v1613 c256_i32_1936
  let v1743 : BitVec 32 := v1742
  let v1764 : Index := Scalar.indexCast v1743
  let c128_1961 : Index := 128#32
  ![0, v1764.toNat, 128]
def k0_mult7 (k0_t1 : Fin k0_t1_loop.trips) (k0_t3 : Fin (k0_t3_loop k0_t1).trips) : BitVec 32 :=
  let c4_i32_2191 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v1992 : BitVec 32 := Scalar.muli c4_i32_2191 arg12
  let c1_i32_2192 : BitVec 32 := 1#32
  let v1993 : BitVec 32 := Scalar.addi v1992 c1_i32_2192
  let c256_i32_2367 : BitVec 32 := 256#32
  let v2122 : BitVec 32 := Scalar.muli v1993 c256_i32_2367
  v2122
def k0_mult8 (k0_t1 : Fin k0_t1_loop.trips) (k0_t3 : Fin (k0_t3_loop k0_t1).trips) : BitVec 32 :=
  let c4_i32_2622 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v2372 : BitVec 32 := Scalar.muli c4_i32_2622 arg12
  let c2_i32_2623 : BitVec 32 := 2#32
  let v2373 : BitVec 32 := Scalar.addi v2372 c2_i32_2623
  let c256_i32_2798 : BitVec 32 := 256#32
  let v2502 : BitVec 32 := Scalar.muli v2373 c256_i32_2798
  v2502
def k0_mult9 (k0_t1 : Fin k0_t1_loop.trips) (k0_t3 : Fin (k0_t3_loop k0_t1).trips) : BitVec 32 :=
  let c4_i32_3053 : BitVec 32 := 4#32
  let c0_i32_31 : BitVec 32 := 0#32
  let c0_i32 : BitVec 32 := 0#32
  let c1_i32 : BitVec 32 := 1#32
  let arg11 : BitVec 32 := Scf.iv c0_i32 c1_i32 k0_t1
  let v33 : BitVec 32 := Scalar.subi arg11 c0_i32_31
  let c1_i32_32 : BitVec 32 := 1#32
  let v35 : BitVec 32 := Scalar.divsi v33 c1_i32_32
  let v36 : BitVec 32 := Scalar.muli v35 c1_i32_32
  let v37 : BitVec 32 := Scalar.addi c0_i32_31 v36
  let c1_i32_34 : BitVec 32 := 1#32
  let arg12 : BitVec 32 := Scf.iv v37 c1_i32_34 k0_t3
  let v2752 : BitVec 32 := Scalar.muli c4_i32_3053 arg12
  let c3_i32_3054 : BitVec 32 := 3#32
  let v2753 : BitVec 32 := Scalar.addi v2752 c3_i32_3054
  let c256_i32_3229 : BitVec 32 := 256#32
  let v2882 : BitVec 32 := Scalar.muli v2753 c256_i32_3229
  v2882
def k0_off11 (k0_t1 : Fin k0_t1_loop.trips) (c0_i32_35 : BitVec 32) (c0_i32_38 : BitVec 32) : Fin 4 → Nat :=
  let c0_39 : Index := 0#32
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let v38 : BitVec 32 := Scalar.addi v12 c0_i32_35
  let c2_i32 : BitVec 32 := 2#32
  let v39 : BitVec 32 := Scalar.subi v38 c2_i32
  let c0_i32_36 : BitVec 32 := 0#32
  let v40 : BitVec 32 := Scalar.maxsi v39 c0_i32_36
  let c2_i32_37 : BitVec 32 := 2#32
  let v41 : BitVec 32 := Scalar.muli v40 c2_i32_37
  let v42 : BitVec 32 := Scalar.addi v41 c0_i32_38
  let v43 : Index := Scalar.indexCast v42
  let c0_40 : Index := 0#32
  let c0_41 : Index := 0#32
  ![0, v43.toNat, 0, 0]
def k0_off12 (k0_t1 : Fin k0_t1_loop.trips) (c0_i32_35 : BitVec 32) (c0_i32_48 : BitVec 32) : Fin 4 → Nat :=
  let c0_49 : Index := 0#32
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let v38 : BitVec 32 := Scalar.addi v12 c0_i32_35
  let c2_i32 : BitVec 32 := 2#32
  let v39 : BitVec 32 := Scalar.subi v38 c2_i32
  let c0_i32_36 : BitVec 32 := 0#32
  let v40 : BitVec 32 := Scalar.maxsi v39 c0_i32_36
  let c2_i32_47 : BitVec 32 := 2#32
  let v52 : BitVec 32 := Scalar.muli v40 c2_i32_47
  let v53 : BitVec 32 := Scalar.addi v52 c0_i32_48
  let v54 : Index := Scalar.indexCast v53
  let c80 : Index := 80#32
  let c0_50 : Index := 0#32
  ![0, v54.toNat, 80, 0]
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let c0_i32_206 : BitVec 32 := 0#32
  let v167 : BitVec 32 := Scalar.addi v12 c0_i32_206
  let c256_i32 : BitVec 32 := 256#32
  let v168 : BitVec 32 := Scalar.muli v167 c256_i32
  v168
def k0_off13 (k0_t1 : Fin k0_t1_loop.trips) (c0_i32_206 : BitVec 32) : Fin 3 → Nat :=
  let c0_207 : Index := 0#32
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let v167 : BitVec 32 := Scalar.addi v12 c0_i32_206
  let c256_i32 : BitVec 32 := 256#32
  let v168 : BitVec 32 := Scalar.muli v167 c256_i32
  let v169 : BitVec 32 := v168
  let v170 : Index := Scalar.indexCast v169
  let c0_208 : Index := 0#32
  ![0, v170.toNat, 0]
def k0_off14 (k0_t1 : Fin k0_t1_loop.trips) (c0_i32_206 : BitVec 32) : Fin 3 → Nat :=
  let c0_231 : Index := 0#32
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let v167 : BitVec 32 := Scalar.addi v12 c0_i32_206
  let c256_i32 : BitVec 32 := 256#32
  let v168 : BitVec 32 := Scalar.muli v167 c256_i32
  let v169 : BitVec 32 := v168
  let v192 : Index := Scalar.indexCast v169
  let c128_232 : Index := 128#32
  ![0, v192.toNat, 128]
def k0_mult11 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let c1_i32_638 : BitVec 32 := 1#32
  let v551 : BitVec 32 := Scalar.addi v12 c1_i32_638
  let c256_i32_639 : BitVec 32 := 256#32
  let v552 : BitVec 32 := Scalar.muli v551 c256_i32_639
  v552
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let c2_i32_1061 : BitVec 32 := 2#32
  let v929 : BitVec 32 := Scalar.addi v12 c2_i32_1061
  let c256_i32_1062 : BitVec 32 := 256#32
  let v930 : BitVec 32 := Scalar.muli v929 c256_i32_1062
  v930
def k0_mult13 (k0_t1 : Fin k0_t1_loop.trips) : BitVec 32 :=
  let c0_i32 : BitVec 32 := 0#32
  let c1_i32 : BitVec 32 := 1#32
  let arg11 : BitVec 32 := Scf.iv c0_i32 c1_i32 k0_t1
  let c4_i32_3 : BitVec 32 := 4#32
  let v12 : BitVec 32 := Scalar.muli arg11 c4_i32_3
  let c3_i32_1383 : BitVec 32 := 3#32
  let v1221 : BitVec 32 := Scalar.addi v12 c3_i32_1383
  let c256_i32_1384 : BitVec 32 := 256#32
  let v1222 : BitVec 32 := Scalar.muli v1221 c256_i32_1384
  v1222
def k0_mult14 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let c0_i32_1726 : BitVec 32 := 0#32
  let v1543 : BitVec 32 := Scalar.addi v5 c0_i32_1726
  v1543
def k0_off15 (k0_t1 : Fin k0_t1_loop.trips) (c0_i32_1726 : BitVec 32) : Fin 3 → Nat :=
  let c0_1727 : Index := 0#32
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let v1543 : BitVec 32 := Scalar.addi v5 c0_i32_1726
  let v1544 : BitVec 32 := v1543
  let v1545 : Index := Scalar.indexCast v1544
  let c0_1728 : Index := 0#32
  ![0, v1545.toNat, 0]
def k0_mult15 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let c256_i32_1737 : BitVec 32 := 256#32
  let v1564 : BitVec 32 := Scalar.addi v5 c256_i32_1737
  v1564
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let c512_i32 : BitVec 32 := 512#32
  let v1585 : BitVec 32 := Scalar.addi v5 c512_i32
  v1585
def k0_mult17 (k0_t1 : Fin k0_t1_loop.trips) : BitVec 32 :=
  let c0_i32 : BitVec 32 := 0#32
  let c1_i32 : BitVec 32 := 1#32
  let arg11 : BitVec 32 := Scf.iv c0_i32 c1_i32 k0_t1
  let c1024_i32 : BitVec 32 := 1024#32
  let v4 : BitVec 32 := Scalar.muli arg11 c1024_i32
  let v5 : BitVec 32 := v4
  let c768_i32 : BitVec 32 := 768#32
  let v1606 : BitVec 32 := Scalar.addi v5 c768_i32
  v1606
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x160x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x4096x2048 : Shape := ⟨3, ![16, 4096, 2048]⟩
abbrev S16x4096x1024 : Shape := ⟨3, ![16, 4096, 1024]⟩
abbrev S16x4096x16x128 : Shape := ⟨4, ![16, 4096, 16, 128]⟩
abbrev S16x4096x16x64 : Shape := ⟨4, ![16, 4096, 16, 64]⟩
abbrev S4096 : Shape := ⟨1, ![4096]⟩
abbrev S16x16x4096x4096 : Shape := ⟨4, ![16, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S16x16x4096 : Shape := ⟨3, ![16, 16, 4096]⟩
abbrev S16x16x4096x1 : Shape := ⟨4, ![16, 16, 4096, 1]⟩
abbrev S16x16x64x4096 : Shape := ⟨4, ![16, 16, 64, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x2048, .bf16⟩
  | .hbm, ⟨1, _⟩ => ⟨S16x4096x2048, .bf16⟩
  | .hbm, ⟨2, _⟩ => ⟨S16x4096x1024, .bf16⟩
  | .hbm, ⟨3, _⟩ => ⟨S16x4096x2048, .f32⟩
  | .hbm, ⟨4, _⟩ => ⟨S16x4096x16x128, .f32⟩
  | .hbm, ⟨5, _⟩ => ⟨S16x4096x2048, .f32⟩
  | .hbm, ⟨6, _⟩ => ⟨S16x4096x16x128, .f32⟩
  | .hbm, ⟨7, _⟩ => ⟨S16x4096x1024, .f32⟩
  | .hbm, ⟨8, _⟩ => ⟨S16x4096x16x64, .f32⟩
  | .hbm, ⟨9, _⟩ => ⟨S4096, .i32⟩
  | .hbm, ⟨10, _⟩ => ⟨S16x16x4096x4096, .f32⟩
  | .hbm, ⟨11, _⟩ => ⟨S_, .f32⟩
  | .hbm, ⟨12, _⟩ => ⟨S_, .f32⟩
  | .hbm, ⟨13, _⟩ => ⟨S16x16x4096x4096, .f32⟩
  | .hbm, ⟨14, _⟩ => ⟨S16x16x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S16x16x4096x4096, .i1⟩
  | .hbm, ⟨23, _⟩ => ⟨S16x16x4096x4096, .f32⟩
  | .hbm, ⟨24, _⟩ => ⟨S16x16x4096x4096, .f32⟩
  | .hbm, ⟨25, _⟩ => ⟨S_, .f32⟩
  | .hbm, ⟨26, _⟩ => ⟨S16x16x4096, .f32⟩
  | .hbm, ⟨27, _⟩ => ⟨S16x16x4096x1, .f32⟩
  | .hbm, ⟨28, _⟩ => ⟨S16x16x4096x4096, .f32⟩
  | .hbm, ⟨29, _⟩ => ⟨S16x16x4096x4096, .f32⟩
  | .hbm, ⟨30, _⟩ => ⟨S16x16x4096x4096, .f32⟩
  | .hbm, ⟨31, _⟩ => ⟨S_, .f32⟩
  | .hbm, ⟨32, _⟩ => ⟨S16x16x4096, .f32⟩
  | .hbm, ⟨33, _⟩ => ⟨S16x16x4096x1, .f32⟩
  | .hbm, ⟨34, _⟩ => ⟨S16x16x4096x4096, .f32⟩
  | .hbm, ⟨35, _⟩ => ⟨S16x16x4096x4096, .f32⟩
  | .hbm, ⟨36, _⟩ => ⟨S16x16x64x4096, .f32⟩
  | .hbm, ⟨37, _⟩ => ⟨S16x4096x16x64, .f32⟩
  | .hbm, ⟨38, _⟩ => ⟨S16x4096x1024, .f32⟩
  | .hbm, ⟨39, _⟩ => ⟨S16x4096x1024, .bf16⟩
  | _, _ => ⟨S16x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Keeps.lean ====
module

public import Idealize.ShloMosaic.Lib.Exec
public import Idealize.ShloMosaic.Lib.Scf
public import Idealize.ShloMosaic.Lib.Tactic
public import Idealize.ShloMosaic.Lib.Pipeline.Kit

/-! Memory safety of a body that only loads from and stores into buffers it holds.

A body of this kind needs no description of what its buffers hold: it is enough that each of them is
held at some contents before and after every step. `Keeps H p` says that the program `p` runs safely
from the resources `H` and gives `H` back. It is closed under sequencing, branching (whichever way the
condition goes) and counted loops (whatever the number of trips), and it holds of a load and of a
store through any memref that `H` can lend. -/

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type}

local notation "𝕄" => MT nD τ sig Unit (Elt F) ℕ (UR sig nD τ) ℕ

/-- The elements of the memref `m` on core `c`, held whole at some contents. -/
def held (c : Dev nD) {sp : Space} {s : Shape} {e : EltTy} (m : Memref sig .tc sp s e) : sProp 𝕄 :=
  iprop(∃ f, m.view.loc (c : Thread nD τ) ↦[m.view.set]{fullShare} f)

/-- The resources `H` contain the memref `m`: they can be split into `m` and what makes them whole again
    once `m` is returned, at whatever contents. -/
class Lends (c : Dev nD) (H : sProp 𝕄) {sp : Space} {s : Shape} {e : EltTy} (m : Memref sig .tc sp s e) : Prop where
  lends : H ⊢ iprop(held (τ := τ) (F := F) c m ∗ (held (τ := τ) (F := F) c m -∗ H))

/-- A memref lends itself. -/
instance lends_self (c : Dev nD) {sp : Space} {s : Shape} {e : EltTy} (m : Memref sig .tc sp s e) :
    Lends (τ := τ) (F := F) c (held (τ := τ) (F := F) c m) m :=
  ⟨by iintro H; isplitl [H]; · iexact H
      iintro H; iexact H⟩

/-- A conjunction lends its first memref. -/
instance lends_head (c : Dev nD) {sp : Space} {s : Shape} {e : EltTy} (m : Memref sig .tc sp s e) (R : sProp 𝕄) :
    Lends (τ := τ) (F := F) c iprop(held (τ := τ) (F := F) c m ∗ R) m :=
  ⟨by iintro ⟨H, HR⟩; isplitl [H]; · iexact H
      iintro H; isplitl [H]; · iexact H
      iexact HR⟩

/-- A conjunction lends whatever its second part lends. -/
instance lends_tail (c : Dev nD) {sp sp' : Space} {s s' : Shape} {e e' : EltTy} (m : Memref sig .tc sp s e)
    (m' : Memref sig .tc sp' s' e') (R : sProp 𝕄) [h : Lends (τ := τ) (F := F) c R m] :
    Lends (τ := τ) (F := F) c iprop(held (τ := τ) (F := F) c m' ∗ R) m :=
  ⟨by iintro ⟨H, HR⟩
      ihave HR' := h.lends $$ HR
      icases HR' with ⟨Hm, Hback⟩
      isplitl [Hm]; · iexact Hm
      iintro Hm
      isplitl [H]; · iexact H
      iapply Hback; iexact Hm⟩

/-- `p` runs safely from `H` on core `c` and leaves `H`. -/
def Keeps (D : Defs nD τ sig (Elt F) Λ) (c : Dev nD) (H : sProp 𝕄) {α : Type} (p : Prog (TpuEff nD τ sig (Elt F) Λ .tc) α) : Prop :=
  H ⊢ wp Idealize.ShloMosaic.frame (wpE D Variants.none (c : Thread nD τ) none) Set.univ p (fun _ => H)

/-- Returning a value changes nothing. -/
theorem Keeps.pure {D : Defs nD τ sig (Elt F) Λ} {c : Dev nD} {H : sProp 𝕄} {α : Type} (a : α) : Keeps D c H (pure a : Prog (TpuEff nD τ sig (Elt F) Λ .tc) α) := by
  unfold Keeps; rw [Prog.pure_eq_ret, wp_ret]; iintro H; imodintro; iexact H

/-- Two programs one after the other. -/
theorem Keeps.bind {D : Defs nD τ sig (Elt F) Λ} {c : Dev nD} {H : sProp 𝕄} {α β : Type} {p : Prog (TpuEff nD τ sig (Elt F) Λ .tc) α} {k : α → Prog (TpuEff nD τ sig (Elt F) Λ .tc) β}
    (hp : Keeps D c H p) (hk : ∀ a, Keeps D c H (k a)) : Keeps D c H (p >>= k) := by
  unfold Keeps; rw [wp_bind]; exact hp.trans (wp_mono _ _ _ hk)

/-- A branch, safe either way. -/
theorem Keeps.dite {D : Defs nD τ sig (Elt F) Λ} {c : Dev nD} {H : sProp 𝕄} {α : Type} {C : Prop} {dec : Decidable C} {p : C → Prog (TpuEff nD τ sig (Elt F) Λ .tc) α}
    {q : ¬ C → Prog (TpuEff nD τ sig (Elt F) Λ .tc) α}
    (hp : ∀ h, Keeps D c H (p h)) (hq : ∀ h, Keeps D c H (q h)) : Keeps D c H (dite C p q) := by
  by_cases h : C
  · rw [dif_pos h]; exact hp h
  · rw [dif_neg h]; exact hq h

/-- A branch whose sides do not use the condition. -/
theorem Keeps.ite {D : Defs nD τ sig (Elt F) Λ} {c : Dev nD} {H : sProp 𝕄} {α : Type} {C : Prop} {dec : Decidable C} {p q : Prog (TpuEff nD τ sig (Elt F) Λ .tc) α}
    (hp : Keeps D c H p) (hq : Keeps D c H q) : Keeps D c H (ite C p q) := by
  by_cases h : C
  · rw [if_pos h]; exact hp
  · rw [if_neg h]; exact hq

/-- A counted loop of safe trips. -/
theorem Keeps.for {D : Defs nD τ sig (Elt F) Λ} {c : Dev nD} {H : sProp 𝕄} {σ : Type} {w : Nat} {l : Scf.Loop w} {hok : l.OK} {init : σ}
    {body : Fin l.trips → σ → Prog (TpuEff nD τ sig (Elt F) Λ .tc) σ}
    (hb : ∀ k a, Keeps D c H (body k a)) : Keeps D c H (Scf.Loop.for l hok init body) := by
  unfold Keeps
  refine .trans ?_ (Scf.wp_for Idealize.ShloMosaic.frame (wpE D Variants.none (c : Thread nD τ) none) Set.univ
    l.lb l.ub l.st hok init body (fun _ _ => H) hb)
  iintro HH
  isplitl [HH]
  · iexact HH
  · iintro %acc HH
    iexact HH

/-- A load through a memref that `H` lends. -/
theorem Keeps.load {D : Defs nD τ sig (Elt F) Λ} {c : Dev nD} {H : sProp 𝕄} {cs : CoreSpace} {s : Shape} {e : EltTy} {m : Memref sig .tc cs s e} [hm : Lends (τ := τ) (F := F) c H m]
    {r : LoadRect s} {hl : m.view.LoadsAt r} :
    Keeps D c H (Prog.lift (.load m r hl) : Prog (TpuEff nD τ sig (Elt F) Λ .tc) _) := by
  unfold Keeps Prog.lift
  have hl' := hm.lends
  unfold held at hl'
  iintro HH
  ihave HH := hl' $$ HH
  icases HH with ⟨⟨%f, Hm⟩, Hback⟩
  iapply (wp_load (Val := Elt F) Variants.none (c : Thread nD τ) none Set.univ (m.view.setOn_subset_set _)) $$ Hm
  iintro Hm
  rw [wp_ret]; imodintro
  iapply Hback
  iexists f; iexact Hm

/-- A store through a memref that `H` lends. -/
theorem Keeps.store {D : Defs nD τ sig (Elt F) Λ} {c : Dev nD} {H : sProp 𝕄} {cs : CoreSpace} {s : Shape} {e : EltTy} {m : Memref sig .tc cs s e} [hm : Lends (τ := τ) (F := F) c H m]
    {r : Rect s} {w : r.shape.Idx → Elt F e} {Mk : Finset r.shape.Idx} {hx : (m.access r).Stores Mk}
    {hu : Mk = Finset.univ ∨ ∀ a, r.stride a = 1} :
    Keeps D c H (Prog.lift (.store m r w Mk hx hu) : Prog (TpuEff nD τ sig (Elt F) Λ .tc) _) := by
  unfold Keeps Prog.lift
  have hl' := hm.lends
  unfold held at hl'
  iintro HH
  ihave HH := hl' $$ HH
  icases HH with ⟨⟨%f, Hm⟩, Hback⟩
  iapply (wp_store (Val := Elt F) Variants.none (c : Thread nD τ) none Set.univ (hx := hx)
    (((m.access r).setOn_subset_set Mk).trans (m.view.set_slice_subset r))) $$ Hm
  iintro Hm
  rw [wp_ret]; imodintro
  iapply Hback
  iexists _; iexact Hm

/-- A staging buffer owned at known contents is held. -/
theorem held_of_owns (c : Dev nD) {sp : Space} {s : Shape} {e : EltTy} (m : Memref sig .tc sp s e) (X : s.Idx → Elt F e) :
    (owns (Ix := Unit) (Name := ℕ) (U := UR sig nD τ) (Lvl := ℕ) (c : Thread nD τ) m fullShare X : sProp 𝕄) ⊢ held (τ := τ) (F := F) c m := by
  unfold owns held
  iintro ⟨%f, -, H⟩
  iexists f; iexact H

/-- A held buffer is owned at whatever it holds. -/
theorem owns_of_held (c : Dev nD) {sp : Space} {s : Shape} {e : EltTy} (m : Memref sig .tc sp s e) :
    held (τ := τ) (F := F) c m ⊢ iprop(∃ X, ⌜True⌝ ∗ (owns (Ix := Unit) (Name := ℕ) (U := UR sig nD τ) (Lvl := ℕ) (c : Thread nD τ) m fullShare X : sProp 𝕄)) := by
  unfold owns held
  iintro ⟨%f, H⟩
  iexists (m.view.read (Elt F) f)
  isplitr
  · ipureintro; trivial
  iexists f
  isplitr
  · ipureintro; rfl
  iexact H

/-- A scratch buffer, whole at some contents, is held. -/
theorem held_of_scratch (c : Dev nD) (b : Ref sig .tc) :
    (iprop(∃ f : Buf (Elt F) ((c : Thread nD τ).loc b), ((c : Thread nD τ).loc b) ↦{fullShare} f) : sProp 𝕄) ⊢ held (τ := τ) (F := F) c (Memref.whole b) := by
  unfold held
  rw [show (Memref.whole b).view.set = Finset.univ from View.set_whole b]

/-- A held scratch buffer is whole at some contents. -/
theorem scratch_of_held (c : Dev nD) (b : Ref sig .tc) :
    held (τ := τ) (F := F) c (Memref.whole b) ⊢ (iprop(∃ f : Buf (Elt F) ((c : Thread nD τ).loc b), ((c : Thread nD τ).loc b) ↦{fullShare} f) : sProp 𝕄) := by
  unfold held
  rw [show (Memref.whole b).view.set = Finset.univ from View.set_whole b]

end Cert.Proof.Safe

end
-- ==== Proof.DsaFrame.lean ====
module

public import proofs.«01_k».proof.Proof.Keeps
public import proofs.«01_k».proof.Proof.Gen.Kernel.Skeleton
public import proofs.«01_k».proof.Proof.Gen.Kernel.Frame

/-! The frame of the sparse attention call.

The body — with the indexer's loops, the branch on whether a threshold is searched at all, the switch on
the number of key blocks, the branch taken only when the threshold is tied, and the two online softmax
loops — touches its nine staged windows and eight scratch buffers and nothing else, whichever branches it
takes and whatever they hold (`keeps_dsa`). So each grid point gives its buffers back, and the launch ends
with its arguments unchanged and every counter at zero. -/

@[expose] public section

set_option maxRecDepth 16384

noncomputable section

namespace Cert.Proof.Safe

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

/-- One call of the body is safe in its nine windows and eight scratch buffers, at every grid point. -/
theorem keeps_dsa (c : Dev nD) (i : grid0.Coords)
    (arg2 : Memref sig .tc .vmem S1x1x1024x128 .bf16) (harg2 : arg2.IsWhole)
    (arg3 : Memref sig .tc .vmem S1x1x512x128 .bf16) (harg3 : arg3.IsWhole)
    (arg4 : Memref sig .tc .vmem S1x128x128 .f32) (harg4 : arg4.IsWhole)
    (arg5 : Memref sig .tc .vmem S1x32x256x128 .bf16) (harg5 : arg5.IsWhole)
    (arg6 : Memref sig .tc .vmem S1x32x80x128 .bf16) (harg6 : arg6.IsWhole)
    (arg7 : Memref sig .tc .vmem S1x32x256x128 .bf16) (harg7 : arg7.IsWhole)
    (arg8 : Memref sig .tc .vmem S2x256x1024 .f32) (harg8 : arg8.IsWhole)
    (arg9 : Memref sig .tc .vmem S128x128 .bf16) (harg9 : arg9.IsWhole)
    (arg10 : Memref sig .tc .vmem S1x128x1024 .bf16) (harg10 : arg10.IsWhole)
    (arg11 : Memref sig .tc .vmem S32x128x128 .f32) (harg11 : arg11.IsWhole)
    (arg12 : Memref sig .tc .vmem S40x128x128 .i16) (harg12 : arg12.IsWhole)
    (arg13 : Memref sig .tc .vmem S40x128x128 .i16) (harg13 : arg13.IsWhole)
    (arg14 : Memref sig .tc .vmem S2x2x1x128x1024 .f32) (harg14 : arg14.IsWhole)
    (arg15 : Memref sig .tc .vmem S2x2x1x128x1024 .bf16) (harg15 : arg15.IsWhole)
    (arg16 : Memref sig .tc .vmem S2x2x1x1x1024 .f32) (harg16 : arg16.IsWhole)
    (arg17 : Memref sig .tc .vmem S2x1x1x1024 .f32) (harg17 : arg17.IsWhole)
    (arg18 : Memref sig .tc .vmem S2x1x80x1024 .f32) (harg18 : arg18.IsWhole) :
    Keeps (defs₀ (F := F)) c
      iprop(held c arg2 ∗ held c arg3 ∗ held c arg4 ∗ held c arg5 ∗ held c arg6 ∗ held c arg7 ∗ held c arg8 ∗
      held c arg9 ∗ held c arg10 ∗ held c arg11 ∗ held c arg12 ∗ held c arg13 ∗ held c arg14 ∗ held c arg15 ∗
      held c arg16 ∗ held c arg17 ∗ held c arg18)
      (cc0_dsa_attn (F := F) i
      arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18) := by
  rw [cc0_dsa_attn_eq_skeleton]
  repeat' first
    | (with_reducible exact Keeps.load)
    | (with_reducible exact Keeps.store)
    | (with_reducible refine Keeps.for fun _ _ => ?_)
    | (with_reducible exact Keeps.pure _)
    | (with_reducible refine Keeps.dite (fun _ => ?_) fun _ => ?_)
    | (with_reducible refine Keeps.ite ?_ ?_)
    | refine Keeps.bind ?_ fun _ => ?_

variable (m : (ℓ : Loc nD τ sig) → Buf (Elt F) ℓ) (g : Dev nD → PrngReg)

/-- The launch's data: the arrays as the launch finds them; of what the body leaves in a window nothing is said. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the launch calls at a grid point is the printed body. -/
theorem body_row (t : Fin cfg0.N) : defs₀ (F := F) .tc cfg0.body (cfg0.bodyArgs t (cfg0.slots t)) = bodyAt0 t := by
  unfold defs₀; rw [Defs.onTc_tc]

/-- At every grid point the body returns its windows and its scratch buffers. -/
theorem body_safe (c : Dev nD) : (rdat m c).BodyObligation defs₀ Variants.none () Set.univ := by
  intro t Y _
  rw [body_row, bigSep_W0, bigSep_W0]
  refine .trans (Q := iprop(_ ∗ ((∃ r, prngReg c r) ∗ (rdat m c).owesAt () t.castSucc))) ?_ ((sep_mono_l (keeps_dsa c (grid0.coords t) _ _ _ _ _ _ _ _ _ _ _ _ _ _ _ _ _ _ _ _ _ _ _ _ _ _ _ _ _ _ _ _ _ _)).trans
    ((wp_frame_r _ _ _).trans (wp_mono _ _ _ fun _ => ?_)))
  · simp only [rdat, Pipeline.ΦA, scopedRest0_eq]
    iintro ⟨⟨⟨S0, S1, S2, S3, S4, S5, S6, S7⟩, Hr⟩, Ho, H0, H1, H2, H3, H4, H5, H6, H7, H8⟩
    ihave H0 := held_of_owns c _ _ $$ H0
    ihave H1 := held_of_owns c _ _ $$ H1
    ihave H2 := held_of_owns c _ _ $$ H2
    ihave H3 := held_of_owns c _ _ $$ H3
    ihave H4 := held_of_owns c _ _ $$ H4
    ihave H5 := held_of_owns c _ _ $$ H5
    ihave H6 := held_of_owns c _ _ $$ H6
    ihave H7 := held_of_owns c _ _ $$ H7
    ihave H8 := held_of_owns c _ _ $$ H8
    ihave S0 := held_of_scratch c cc0_scratch0 $$ S0
    ihave S1 := held_of_scratch c cc0_scratch1 $$ S1
    ihave S2 := held_of_scratch c cc0_scratch2 $$ S2
    ihave S3 := held_of_scratch c cc0_scratch3 $$ S3
    ihave S4 := held_of_scratch c cc0_scratch4 $$ S4
    ihave S5 := held_of_scratch c cc0_scratch5 $$ S5
    ihave S6 := held_of_scratch c cc0_scratch6 $$ S6
    ihave S7 := held_of_scratch c cc0_scratch7 $$ S7
    iframe
  · simp only [rdat, Pipeline.ΦA, scopedRest0_eq]
    iintro ⟨⟨H0, H1, H2, H3, H4, H5, H6, H7, H8, S0, S1, S2, S3, S4, S5, S6, S7⟩, Hr, Ho⟩
    ihave H0 := owns_of_held c _ $$ H0
    ihave H1 := owns_of_held c _ $$ H1
    ihave H2 := owns_of_held c _ $$ H2
    ihave H3 := owns_of_held c _ $$ H3
    ihave H4 := owns_of_held c _ $$ H4
    ihave H5 := owns_of_held c _ $$ H5
    ihave H6 := owns_of_held c _ $$ H6
    ihave H7 := owns_of_held c _ $$ H7
    ihave H8 := owns_of_held c _ $$ H8
    ihave S0 := scratch_of_held c cc0_scratch0 $$ S0
    ihave S1 := scratch_of_held c cc0_scratch1 $$ S1
    ihave S2 := scratch_of_held c cc0_scratch2 $$ S2
    ihave S3 := scratch_of_held c cc0_scratch3 $$ S3
    ihave S4 := scratch_of_held c cc0_scratch4 $$ S4
    ihave S5 := scratch_of_held c cc0_scratch5 $$ S5
    ihave S6 := scratch_of_held c cc0_scratch6 $$ S6
    ihave S7 := scratch_of_held c cc0_scratch7 $$ S7
    iframe
    iexact Ho

/-- The launch terminates with every argument unchanged and every counter at zero. -/
theorem frame_dsa : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  RDat.θ_run_frame cfgs 0 launch0 defs₀ Variants.none (rdat m) m g main (body_safe m)
    (fun c w => by unfold RDat.share; split <;> rfl) (fun _ _ => rfl) (V m) (hmain m Variants.none) (fun _ _ => rfl) (fun _ _ => rfl) _
    fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 6 rfl).trans (V_main_arg6 m c),
      (h.1.arr_in c 7 rfl).trans (V_main_arg7 m c)⟩, h.2⟩

end Cert.Proof.Safe

end
-- ==== Proof.Mlp.lean ====
module

public import proofs.«01_k».proof.Proof.Gen.Kernel2Ideal.Value
public import proofs.«01_k».proof.Proof.Gen.Reference2Ideal.Run
public import Idealize.ShloMosaic.Lib.Pipeline.Value
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.Mlp

open Cert.Kernel2Ideal Cert.Kernel2Ideal.Gen
open Idealize.ShloMosaic Idealize.ShloMosaic.TcCoe Idealize.SL.Sem
open Idealize.ShloMosaic.Pipeline (Dat)

/-! ## The layer's second half on one row of the activations, over the extended reals -/

/-- One row times a matrix. -/
def rowMul {K N : Nat} (a : Fin K → EReal) (w : Fin K → Fin N → EReal) (n : Fin N) : EReal := ∑ k, a k * w k n

/-- The row after the attention's output projection has been added to it. -/
def resid (x a : Fin 1024 → EReal) (wo : Fin 1024 → Fin 1024 → EReal) (n : Fin 1024) : EReal := x n + rowMul a wo n

/-- The row divided by the root of its mean square (plus 1e-6), times the learnt gains. -/
def rms (y g : Fin 1024 → EReal) (n : Fin 1024) : EReal :=
  y n * Ideal.rsqrt (Ideal.div (∑ k, y k * y k) (Ideal.ofBits FTy.f32 0x44800000#32) + Ideal.ofBits FTy.f32 0x358637BD#32) * g n

/-- The squared positive part. -/
def relu2 (v : EReal) : EReal := max v 0 * max v 0

/-- The feed-forward part with its residual: `y + relu(rms(y) · wu)² · wd`, over `N` hidden units. -/
def mlp {N : Nat} (h : Fin 1024 → EReal) (wu : Fin 1024 → Fin N → EReal) (wd : Fin N → Fin 1024 → EReal) (n : Fin 1024) : EReal :=
  ∑ f, relu2 (rowMul h wu f) * wd f n

/-- The whole row: residual, norm, feed-forward. -/
def layer (x a g : Fin 1024 → EReal) (wo : Fin 1024 → Fin 1024 → EReal) (wu : Fin 1024 → Fin 4096 → EReal)
    (wd : Fin 4096 → Fin 1024 → EReal) (n : Fin 1024) : EReal :=
  resid x a wo n + mlp (rms (resid x a wo) g) wu wd n

/-- A sum over 4096 terms is the sum of its four runs of 1024. -/
theorem sum_chunks (F : Fin 4096 → EReal) :
    ∑ f, F f = (((∑ k : Fin 1024, F ⟨k, by omega⟩) + ∑ k : Fin 1024, F ⟨1024 + k.val, by omega⟩)
      + ∑ k : Fin 1024, F ⟨2048 + k.val, by omega⟩) + ∑ k : Fin 1024, F ⟨3072 + k.val, by omega⟩ := by
  have e := (finProdFinEquiv (m := 4) (n := 1024)).sum_comp F
  rw [← e, Fintype.sum_prod_type, Fin.sum_univ_four]
  have key : ∀ (c : Fin 4) (o : Nat) (h : ∀ k : Fin 1024, o + k.val < 4096), c.val * 1024 = o →
      ∑ k : Fin 1024, F (finProdFinEquiv (c, k)) = ∑ k : Fin 1024, F ⟨o + k, h k⟩ := fun c o h ho =>
    Finset.sum_congr rfl fun k _ => congrArg F (Fin.ext (by
      show k.val + 1024 * c.val = o + k.val
      omega))
  rw [key 0 0 (fun k => by omega) rfl, key 1 1024 (fun k => by omega) rfl, key 2 2048 (fun k => by omega) rfl,
    key 3 3072 (fun k => by omega) rfl]
  simp only [Nat.zero_add]

/-- The feed-forward part over 4096 hidden units, as four parts over 1024 hidden units each added in order. -/
theorem mlp_chunks (h : Fin 1024 → EReal) (wu : Fin 1024 → Fin 4096 → EReal) (wd : Fin 4096 → Fin 1024 → EReal) (n : Fin 1024) :
    mlp h wu wd n
      = ((mlp h (fun k (f : Fin 1024) => wu k ⟨f.val, by omega⟩) (fun (f : Fin 1024) => wd ⟨f.val, by omega⟩) n
          + mlp h (fun k (f : Fin 1024) => wu k ⟨1024 + f.val, by omega⟩) (fun (f : Fin 1024) => wd ⟨1024 + f.val, by omega⟩) n)
          + mlp h (fun k (f : Fin 1024) => wu k ⟨2048 + f.val, by omega⟩) (fun (f : Fin 1024) => wd ⟨2048 + f.val, by omega⟩) n)
          + mlp h (fun k (f : Fin 1024) => wu k ⟨3072 + f.val, by omega⟩) (fun (f : Fin 1024) => wd ⟨3072 + f.val, by omega⟩) n :=
  sum_chunks fun f => relu2 (rowMul h wu f) * wd f n

/-! ## The body's values at an index -/

section
variable (v0 : Vec Ideal S512x1024 .f32) (v1 : Vec Ideal S512x1024 .bf16) (v2 : Vec Ideal S1024x1024 .bf16) (v6 : Vec Ideal S1x1024 .f32)

/-- The residual stream after the output projection, at an index. -/
theorem pay2_apply (r : Fin 512) (n : Fin 1024) :
    k0_pay2 v0 v1 v2 (ix2 r n) = resid (fun k => v0 (ix2 r k)) (fun k => v1 (ix2 r k)) (fun k j => v2 (ix2 k j)) n := by
  unfold k0_pay2
  pointwise
  rfl

/-- Its norm, at an index. -/
theorem pay3_apply (r : Fin 512) (n : Fin 1024) :
    k0_pay3 v0 v1 v2 v6 (ix2 r n) = rms (resid (fun k => v0 (ix2 r k)) (fun k => v1 (ix2 r k)) (fun k j => v2 (ix2 k j)))
      (fun k => v6 (ix2 0 k)) n := by
  unfold k0_pay3
  pointwise
  simp only [pay2_apply]
  rfl

variable (v21 v28 v32 v39 v43 v50 v54 v61 : Vec Ideal S1024x1024 .bf16)

/-- A weight block read as a matrix. -/
abbrev mat {K N : Nat} {e : EltTy} (w : Vec Ideal ⟨2, ![K, N]⟩ e) : Fin K → Fin N → Elt Ideal e := fun k n => w (ix2 k n)

/-- The residual stream with the first run of hidden units added, at an index. -/
theorem pay4_apply (r : Fin 512) (n : Fin 1024) :
    k0_pay4 v0 v1 v2 v6 v21 v28 (ix2 r n) = k0_pay2 v0 v1 v2 (ix2 r n)
      + mlp (fun k => k0_pay3 v0 v1 v2 v6 (ix2 r k)) (mat v21) (mat v28) n := by
  unfold k0_pay4
  pointwise
  rfl

/-- The second run of hidden units before its activation, at an index. -/
theorem pay5_apply (r : Fin 512) (n : Fin 1024) :
    k0_pay5 v0 v1 v2 v6 v32 (ix2 r n) = rowMul (fun k => k0_pay3 v0 v1 v2 v6 (ix2 r k)) (mat v32) n := by
  unfold k0_pay5
  pointwise
  rfl

/-- The value stored last, at an index. -/
theorem pay1_apply (v20 : Vec Ideal S512x1024 .bf16) (v31 v34 : Vec Ideal S512x1024 .f32) (r : Fin 512) (n : Fin 1024) :
    k0_pay1 v20 v31 v34 (k0_pay6 (F := Ideal)) v39 v43 v50 v54 v61 (ix2 r n)
      = ((v31 (ix2 r n) + ∑ f : Fin 1024, relu2 (v34 (ix2 r f)) * v39 (ix2 f n))
        + mlp (fun k => v20 (ix2 r k)) (mat v43) (mat v50) n) + mlp (fun k => v20 (ix2 r k)) (mat v54) (mat v61) n := by
  unfold k0_pay1 k0_pay6
  pointwise
  rfl
end

/-- The block the body stores: each of its rows is `layer` of that row of the two activation blocks. -/
theorem out_apply (x0 : Vec Ideal S512x1024 .f32) (x1 : Vec Ideal S512x1024 .bf16) (x2 : Vec Ideal S1024x1024 .bf16)
    (x3 : Vec Ideal S1x1024 .f32) (x4 : Vec Ideal S1024x4096 .bf16) (x5 : Vec Ideal S4096x1024 .bf16) (r : Fin 512) (n : Fin 1024) :
    out0_6 x0 x1 x2 x3 x4 x5 (ix2 r n)
      = layer (fun k => x0 (ix2 r k)) (fun k => x1 (ix2 r k)) (fun k => x3 (ix2 0 k)) (mat x2) (mat x4) (mat x5) n := by
  have hz : (![0, 0] : Fin 2 → Nat) = fun _ => 0 := funext fun a => by fin_cases a <;> rfl
  unfold out0_6
  rw [View.canon_unit_zero hz, View.ld_unit_zero hz, View.ld_unit_zero hz, View.ld_unit_zero hz, View.ld_unit_zero hz,
    pay1_apply, pay4_apply, pay2_apply]
  simp only [pay5_apply, pay3_apply]
  have col : ∀ (o : Nat) (ho : o + 1024 ≤ 4096) (inb : ∀ a, (![0, o] : Fin 2 → Nat) a + S1024x1024.size a ≤ S1024x4096.size a),
      mat (View.ld x4 (Rect.unit (s := S1024x4096) ![0, o] S1024x1024.size inb)) = fun (k f : Fin 1024) => mat x4 k ⟨o + f.val, by omega⟩ :=
    fun o ho inb => funext fun k => funext fun f =>
      View.ld_unit_apply_of x4 _ _ inb (ix2 k f) (ix2 k ⟨o + f.val, by omega⟩) fun a => by
      match a with
      | ⟨0, _⟩ => exact (Nat.zero_add _).symm
      | ⟨1, _⟩ => rfl
  have row : ∀ (o : Nat) (ho : o + 1024 ≤ 4096) (inb : ∀ a, (![o, 0] : Fin 2 → Nat) a + S1024x1024.size a ≤ S4096x1024.size a),
      mat (View.ld x5 (Rect.unit (s := S4096x1024) ![o, 0] S1024x1024.size inb)) = fun (f n : Fin 1024) => mat x5 ⟨o + f.val, by omega⟩ n :=
    fun o ho inb => funext fun f => funext fun n =>
      View.ld_unit_apply_of x5 _ _ inb (ix2 f n) (ix2 ⟨o + f.val, by omega⟩ n) fun a => by
      match a with
      | ⟨0, _⟩ => rfl
      | ⟨1, _⟩ => exact (Nat.zero_add _).symm
  have c3 := col 3072 (by omega) inb_S1024x4096_S1024x1024_0_3072
  have c2 := col 2048 (by omega) inb_S1024x4096_S1024x1024_0_2048
  have c1 := col 1024 (by omega) inb_S1024x4096_S1024x1024_0_1024
  have c0 := col 0 (by omega) inb_S1024x4096_S1024x1024_0_0
  have d3 := row 3072 (by omega) inb_S4096x1024_S1024x1024_3072_0
  have d2 := row 2048 (by omega) inb_S4096x1024_S1024x1024_2048_0
  have d1 := row 1024 (by omega) inb_S4096x1024_S1024x1024_1024_0
  have d0 := row 0 (by omega) inb_S4096x1024_S1024x1024_0_0
  simp only [Nat.zero_add] at c0 d0
  rw [c3, c2, c0, d3, d2, d0]
  unfold layer
  rw [mlp_chunks, ← add_assoc, ← add_assoc, ← add_assoc]
  refine congrArg₂ (· + ·) (congrArg₂ (· + ·) (congrArg₂ (· + ·) rfl ?_) rfl) rfl
  refine Finset.sum_congr rfl fun f _ => congrArg₂ (· * ·) (congrArg relu2 ?_) ?_
  · rw [c1]
  · exact congrFun (congrFun d1 f) n

/-! ## The result array -/

variable (m : (ℓ : Loc nD τ sig) → Buf (Elt Ideal) ℓ) (ρ : Dev nD → PrngReg)

/-- The result array: row `i` is `layer` of row `i` of the residual stream and of the attention's output. -/
def result (X : Vec Ideal S65536x1024 .f32) (A : Vec Ideal S65536x1024 .bf16) (Wo : Vec Ideal S1024x1024 .f32)
    (g : Vec Ideal S1024 .f32) (Wu : Vec Ideal S1024x4096 .f32) (Wd : Vec Ideal S4096x1024 .f32) : Vec Ideal S65536x1024 .f32 :=
  fun i => layer (fun k => X (ix2 (i 0) k)) (fun k => A (ix2 (i 0) k)) (fun k => g (ix1 k)) (mat Wo) (mat Wu) (mat Wd) (i 1)

/-- The weights the call is given, after the host's casts (which change no value here) and its reshape of the gains. -/
theorem V_v0 (c : Dev nD) (k n : Fin 1024) : (V m c main_v0 : Vec Ideal S1024x1024 .bf16) (ix2 k n)
    = (m ((c : Thread nD τ).loc main_arg2) : Vec Ideal S1024x1024 .f32) (ix2 k n) := by
  unfold V
  simp only [hostOps0, List.flatten_cons, List.flatten_nil, List.append_nil, List.cons_append, List.nil_append]
  after_results
  pointwise

/-- The gains as the call is given them. -/
theorem V_v1 (c : Dev nD) (k : Fin 1024) : (V m c main_v1 : Vec Ideal S1x1024 .f32) (ix2 0 k)
    = (m ((c : Thread nD τ).loc main_arg3) : Vec Ideal S1024 .f32) (ix1 k) := by
  unfold V
  simp only [hostOps0, List.flatten_cons, List.flatten_nil, List.append_nil, List.cons_append, List.nil_append]
  after_results
  pointwise

/-- The first feed-forward weights as the call is given them. -/
theorem V_v2 (c : Dev nD) (k : Fin 1024) (n : Fin 4096) : (V m c main_v2 : Vec Ideal S1024x4096 .bf16) (ix2 k n)
    = (m ((c : Thread nD τ).loc main_arg4) : Vec Ideal S1024x4096 .f32) (ix2 k n) := by
  unfold V
  simp only [hostOps0, List.flatten_cons, List.flatten_nil, List.append_nil, List.cons_append, List.nil_append]
  after_results
  pointwise

/-- The second feed-forward weights as the call is given them. -/
theorem V_v3 (c : Dev nD) (k : Fin 4096) (n : Fin 1024) : (V m c main_v3 : Vec Ideal S4096x1024 .bf16) (ix2 k n)
    = (m ((c : Thread nD τ).loc main_arg5) : Vec Ideal S4096x1024 .f32) (ix2 k n) := by
  unfold V
  simp only [hostOps0, List.flatten_cons, List.flatten_nil, List.append_nil, List.cons_append, List.nil_append]
  after_results
  pointwise

/-! The windows' block indices in closed form: block `t` of the rows, or the one block of a weight. -/

/-- Which block window 0 stages at a grid point. -/
theorem idx0 : ∀ t : Fin cfg0.N, win0_0.index t = ![t.val, 0] := (by decide +kernel : ∀ t : Fin grid0.N, _)
/-- Which block window 1 stages at a grid point. -/
theorem idx1 : ∀ t : Fin cfg0.N, win0_1.index t = ![t.val, 0] := (by decide +kernel : ∀ t : Fin grid0.N, _)
/-- Which block window 2 stages at a grid point. -/
theorem idx2 : ∀ t : Fin cfg0.N, win0_2.index t = ![0, 0] := (by decide +kernel : ∀ t : Fin grid0.N, _)
/-- Which block window 3 stages at a grid point. -/
theorem idx3 : ∀ t : Fin cfg0.N, win0_3.index t = ![0, 0] := (by decide +kernel : ∀ t : Fin grid0.N, _)
/-- Which block window 4 stages at a grid point. -/
theorem idx4 : ∀ t : Fin cfg0.N, win0_4.index t = ![0, 0] := (by decide +kernel : ∀ t : Fin grid0.N, _)
/-- Which block window 5 stages at a grid point. -/
theorem idx5 : ∀ t : Fin cfg0.N, win0_5.index t = ![0, 0] := (by decide +kernel : ∀ t : Fin grid0.N, _)
/-- Which block window 6 stages at a grid point. -/
theorem idx6 : ∀ t : Fin cfg0.N, win0_6.index t = ![t.val, 0] := (by decide +kernel : ∀ t : Fin grid0.N, _)

/-- Row `r` of the block at point `t` is row `512 t + r` of the array. -/
abbrev rowAt (t : Fin cfg0.N) (r : Fin 512) : Fin 65536 :=
  ⟨t.val * 512 + r.val, by have := t.isLt; have : cfg0.N = 128 := N_0; omega⟩

/-- The block of the attention output staged at a grid point, at an index. -/
theorem iblk0_apply (c : Dev nD) (t : Fin cfg0.N) (r : Fin 512) (k : Fin 1024) :
    (iblk m c 0 t : Vec Ideal S512x1024 .f32) (ix2 r k) = (m ((c : Thread nD τ).loc main_arg0) : Vec Ideal S65536x1024 .f32) (ix2 (rowAt t r) k) := by
  rw [← V_main_arg0 m c]
  blk_simp [iblk]
  exact congrArg _ (by blk_ext [idx0])

/-- The block of the residual stream staged at a grid point, at an index. -/
theorem iblk1_apply (c : Dev nD) (t : Fin cfg0.N) (r : Fin 512) (k : Fin 1024) :
    (iblk m c 1 t : Vec Ideal S512x1024 .bf16) (ix2 r k) = (m ((c : Thread nD τ).loc main_arg1) : Vec Ideal S65536x1024 .bf16) (ix2 (rowAt t r) k) := by
  rw [← V_main_arg1 m c]
  blk_simp [iblk]
  exact congrArg _ (by blk_ext [idx1])

/-- The block of the output projection weights staged at a grid point, at an index. -/
theorem iblk2_apply (c : Dev nD) (t : Fin cfg0.N) (k n : Fin 1024) :
    (iblk m c 2 t : Vec Ideal S1024x1024 .bf16) (ix2 k n) = (m ((c : Thread nD τ).loc main_arg2) : Vec Ideal S1024x1024 .f32) (ix2 k n) := by
  rw [← V_v0 m c]
  blk_simp [iblk]
  exact congrArg _ (by blk_ext [idx2])

/-- The block of the gains staged at a grid point, at an index. -/
theorem iblk3_apply (c : Dev nD) (t : Fin cfg0.N) (k : Fin 1024) :
    (iblk m c 3 t : Vec Ideal S1x1024 .f32) (ix2 0 k) = (m ((c : Thread nD τ).loc main_arg3) : Vec Ideal S1024 .f32) (ix1 k) := by
  rw [← V_v1 m c]
  blk_simp [iblk]
  exact congrArg _ (by blk_ext [idx3])

/-- The block of the first feed-forward weights staged at a grid point, at an index. -/
theorem iblk4_apply (c : Dev nD) (t : Fin cfg0.N) (k : Fin 1024) (n : Fin 4096) :
    (iblk m c 4 t : Vec Ideal S1024x4096 .bf16) (ix2 k n) = (m ((c : Thread nD τ).loc main_arg4) : Vec Ideal S1024x4096 .f32) (ix2 k n) := by
  rw [← V_v2 m c]
  blk_simp [iblk]
  exact congrArg _ (by blk_ext [idx4])

/-- The block of the second feed-forward weights staged at a grid point, at an index. -/
theorem iblk5_apply (c : Dev nD) (t : Fin cfg0.N) (k : Fin 4096) (n : Fin 1024) :
    (iblk m c 5 t : Vec Ideal S4096x1024 .bf16) (ix2 k n) = (m ((c : Thread nD τ).loc main_arg5) : Vec Ideal S4096x1024 .f32) (ix2 k n) := by
  rw [← V_v3 m c]
  blk_simp [iblk]
  exact congrArg _ (by blk_ext [idx5])

/-- After the region the result array is `result` of the arguments: every block is, and the blocks cover the array. -/
theorem final (c : Dev nD) : (dats m 0 c).arrAt 6 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨r, n, rfl⟩ : ∃ (r : Fin 512) (n : Fin 1024), y = ix2 r n := ⟨y 0, y 1, (ix2_eta y).symm⟩
  refine (out_apply _ _ _ _ _ _ r n).trans ?_
  have e : (win0_6.blk t).view.emb (ix2 r n) = ix2 (rowAt t r) n := by blk_ext [idx6]
  rw [e]
  unfold result mat
  simp only [iblk0_apply, iblk1_apply, iblk2_apply, iblk3_apply, iblk4_apply, iblk5_apply, ix2_0, ix2_1]

/-- The call's run: it ends with the result array at `result` of the arguments, the arguments as they were. -/
theorem run : θ_run defs (onTc (τ := τ) (main (F := Ideal))) ⟨m, fun _ => 0, ρ⟩ fun r => ∀ c : Dev nD,
      r.2.mem ((c : Thread nD τ).loc main_v4) = result (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.Kernel2Ideal.Value.run_blocks m ρ)

end Cert.Proof.Mlp
end
-- ==== Proof.MlpRef.lean ====
module

public import proofs.«01_k».proof.Defs
public import proofs.«01_k».proof.Proof.Gen.Kernel2.Frame
public import proofs.«01_k».proof.Proof.Mlp
public import Idealize.ShloMosaic.Lib.Quiescent

@[expose] public section

set_option maxRecDepth 16384

noncomputable section

namespace Cert.Proof.Mlp

open Cert.Reference2Ideal Cert.Reference2Ideal.Gen
open Idealize.ShloMosaic Idealize.ShloMosaic.TcCoe Idealize.SL.Sem

/-! ## The reference, read at an index: its host program stage by stage -/

section
variable (X : Vec Ideal S65536x1024 .f32) (A : Vec Ideal S65536x1024 .bf16) (Wo : Vec Ideal S1024x1024 .f32)
  (g : Vec Ideal S1024 .f32) (Wu : Vec Ideal S1024x4096 .f32) (Wd : Vec Ideal S4096x1024 .f32)

/-- The residual stream plus the projected attention output, as the reference's operations. -/
def refMid : FVec Ideal S65536x1024 .f32 :=
  addf X (Host.dotGeneral (F := Ideal) (φ₁ := .f32) (φ₂ := .f32) dot_S65536x1024_S1024x1024_S65536x1024_1_0_0_1_n_n none (extf .f32 A bitsLt_bf16_f32) Wo)

/-- The residual stream after the output projection, at an index. -/
theorem refMid_apply (r : Fin 65536) (n : Fin 1024) : refMid X A Wo (ix2 r n)
    = resid (fun k => X (ix2 r k)) (fun k => A (ix2 r k)) (mat Wo) n := by
  unfold refMid
  pointwise
  rfl

/-- The normed rows, as the reference's operations. -/
def refNorm (Y : FVec Ideal S65536x1024 .f32) : FVec Ideal S65536x1024 .f32 :=
  mulf (mulf Y (broadcastInDim S65536x1024 ![0, 1] bcast_S65536x1_S65536x1024_0_1 (Host.rsqrt (addf (Host.divf (broadcastInDim S65536x1 ![0] bcast_S65536_S65536x1_0 (Host.reduceAdd (mulf Y Y) (constant (F := Ideal) S_ .f32 0x00000000#32) reducesTo_S65536x1024_S65536_d1 h_S_)) (broadcastInDim S65536x1 ![] bcast_S_S65536x1 (constant (F := Ideal) S_ .f32 0x44800000#32))) (broadcastInDim S65536x1 ![] bcast_S_S65536x1 (constant (F := Ideal) S_ .f32 0x358637BD#32)))))) (broadcastInDim S65536x1024 ![0, 1] bcast_S1x1024_S65536x1024_0_1 (broadcastInDim S1x1024 ![1] bcast_S1024_S1x1024_1 g))

/-- The norm at an index. -/
theorem refNorm_apply (Y : FVec Ideal S65536x1024 .f32) (r : Fin 65536) (n : Fin 1024) : refNorm g Y (ix2 r n)
    = rms (fun k => Y (ix2 r k)) (fun k => g (ix1 k)) n := by
  unfold refNorm
  pointwise
  rfl

/-- The feed-forward part, as the reference's operations. -/
def refMlp (H : FVec Ideal S65536x1024 .f32) : FVec Ideal S65536x1024 .f32 :=
  Host.dotGeneral (F := Ideal) (φ₁ := .f32) (φ₂ := .f32) dot_S65536x4096_S4096x1024_S65536x1024_1_0_0_1_n_n none
    (mulf (maximumf (Host.dotGeneral (F := Ideal) (φ₁ := .f32) (φ₂ := .f32) dot_S65536x1024_S1024x4096_S65536x4096_1_0_0_1_n_n none H Wu) (broadcastInDim S65536x4096 ![] bcast_S_S65536x4096 (constant (F := Ideal) S_ .f32 0x00000000#32)))
      (maximumf (Host.dotGeneral (F := Ideal) (φ₁ := .f32) (φ₂ := .f32) dot_S65536x1024_S1024x4096_S65536x4096_1_0_0_1_n_n none H Wu) (broadcastInDim S65536x4096 ![] bcast_S_S65536x4096 (constant (F := Ideal) S_ .f32 0x00000000#32)))) Wd

/-- The feed-forward part at an index. -/
theorem refMlp_apply (H : FVec Ideal S65536x1024 .f32) (r : Fin 65536) (n : Fin 1024) : refMlp Wu Wd H (ix2 r n)
    = mlp (fun k => H (ix2 r k)) (mat Wu) (mat Wd) n := by
  unfold refMlp
  pointwise
  rfl

/-- The reference's result is `result` of its arguments. -/
theorem ref_eq : addf (refMid X A Wo) (refMlp Wu Wd (refNorm g (refMid X A Wo))) = result X A Wo g Wu Wd := by
  funext i
  obtain ⟨r, n, rfl⟩ : ∃ (r : Fin 65536) (n : Fin 1024), i = ix2 r n := ⟨i 0, i 1, (ix2_eta i).symm⟩
  show refMid X A Wo (ix2 r n) + refMlp Wu Wd (refNorm g (refMid X A Wo)) (ix2 r n) = _
  rw [refMlp_apply]
  simp only [refNorm_apply, refMid_apply]
  rfl
end

/-! ## The claims -/

/-- The call runs to its end on bit patterns, its arguments kept. -/
theorem frame_kernel : Cert.quiescent_Kernel2 := fun m ρ _ => Cert.Kernel2.Gen.frame m ρ

/-- The same of its idealization, over the extended reals. -/
theorem frame_ideal : Cert.quiescent_Kernel2Ideal := fun m ρ _ => Cert.Kernel2Ideal.Gen.frame m ρ

/-- The reference runs to its end over the extended reals, its arguments kept. -/
theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The idealization rewrote nothing. -/
theorem preserves : Cert.preserves_Kernel2_Kernel2Ideal := trivial

/-- From equal arguments the call and the reference end with equal results over the extended reals. -/
theorem algebraic : Cert.algebraic_Kernel2Ideal_Reference2Ideal := by
  intro m ρ m' ρ' _ hagree
  refine ⟨_, run m ρ, ?_⟩
  refine (θ_run Cert.Reference2Ideal.defs _ _).mono (fun r h c => ⟨(h c).1.trans ?_, (h c).2⟩) (Cert.Reference2Ideal.Value.run (F := Ideal) m' ρ')
  obtain ⟨h0, h1, h2, h3, h4, h5⟩ := hagree c
  have e := ref_eq (m' ((c : Thread nD τ).loc main_arg0)) (m' ((c : Thread nD τ).loc main_arg1)) (m' ((c : Thread nD τ).loc main_arg2))
    (m' ((c : Thread nD τ).loc main_arg3)) (m' ((c : Thread nD τ).loc main_arg4)) (m' ((c : Thread nD τ).loc main_arg5))
  rw [h0, h1, h2, h3, h4, h5] at e
  rw [h0, h1, h2, h3, h4, h5]
  exact e

end Cert.Proof.Mlp
end
-- ==== Proof.MlaFrame.lean ====
module

public import proofs.«01_k».proof.Proof.Keeps
public import proofs.«01_k».proof.Proof.Gen.Kernel3.Skeleton
public import proofs.«01_k».proof.Proof.Gen.Kernel3.Frame

/-! The frame of the latent attention call.

The body — a loop over blocks of queries, and in it a loop over blocks of keys, each trip scoring one
step while it accumulates an earlier one — touches its four staged windows and five scratch buffers and
nothing else (`keeps_mla`). So each grid point gives its buffers back, and the launch ends with its
arguments unchanged and every counter at zero. -/

@[expose] public section

set_option maxRecDepth 16384

noncomputable section

namespace Cert.Proof.MlaSafe

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Proof.Safe

variable {F : FTy → Type} [BitOps F]

local notation "𝕄" => MT nD τ sig Unit (Elt F) ℕ (UR sig nD τ) ℕ

set_option maxHeartbeats 4000000 in
/-- One call of the body is safe in its four windows and five scratch buffers, at every grid point. -/
theorem keeps_mla (c : Dev nD) (i : grid0.Coords)
    (arg2 : Memref sig .tc .vmem S1x4096x256 .bf16) (harg2 : arg2.IsWhole)
    (arg3 : Memref sig .tc .vmem S1x4096x256 .bf16) (harg3 : arg3.IsWhole)
    (arg4 : Memref sig .tc .vmem S1x32x160x128 .bf16) (harg4 : arg4.IsWhole)
    (arg5 : Memref sig .tc .vmem S1x4096x128 .bf16) (harg5 : arg5.IsWhole)
    (arg6 : Memref sig .tc .vmem S2x2x4x256x256 .f32) (harg6 : arg6.IsWhole)
    (arg7 : Memref sig .tc .vmem S2x2x4x256x256 .bf16) (harg7 : arg7.IsWhole)
    (arg8 : Memref sig .tc .vmem S2x2x4x1x256 .f32) (harg8 : arg8.IsWhole)
    (arg9 : Memref sig .tc .vmem S2x4x1x256 .f32) (harg9 : arg9.IsWhole)
    (arg10 : Memref sig .tc .vmem S2x4x80x256 .f32) (harg10 : arg10.IsWhole) :
    Keeps (defs₀ (F := F)) c
      iprop(held c arg2 ∗ held c arg3 ∗ held c arg4 ∗ held c arg5 ∗ held c arg6 ∗ held c arg7 ∗ held c arg8 ∗ held c arg9 ∗ held c arg10)
      (cc0_mla_attn (F := F) i
      arg2 harg2 arg3 harg3 arg4 harg4 arg5 harg5 arg6 harg6 arg7 harg7 arg8 harg8 arg9 harg9 arg10 harg10) := by
  rw [cc0_mla_attn_eq_skeleton]
  repeat' first
    | (with_reducible exact Keeps.load)
    | (with_reducible exact Keeps.store)
    | (with_reducible refine Keeps.for fun _ _ => ?_)
    | (with_reducible exact Keeps.pure _)
    | (with_reducible refine Keeps.dite (fun _ => ?_) fun _ => ?_)
    | (with_reducible refine Keeps.ite ?_ ?_)
    | refine Keeps.bind ?_ fun _ => ?_

variable (m : (ℓ : Loc nD τ sig) → Buf (Elt F) ℓ) (g : Dev nD → PrngReg)

/-- The launch's data: the arrays as the launch finds them; of what the body leaves in a window nothing is said. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the launch calls at a grid point is the printed body. -/
theorem body_row (t : Fin cfg0.N) : defs₀ (F := F) .tc cfg0.body (cfg0.bodyArgs t (cfg0.slots t)) = bodyAt0 t := by
  unfold defs₀; rw [Defs.onTc_tc]

/-- At every grid point the body returns its windows and its scratch buffers. -/
theorem body_safe (c : Dev nD) : (rdat m c).BodyObligation defs₀ Variants.none () Set.univ := by
  intro t Y _
  rw [body_row, bigSep_W0, bigSep_W0]
  refine .trans (Q := iprop(_ ∗ ((∃ r, prngReg c r) ∗ (rdat m c).owesAt () t.castSucc))) ?_ ((sep_mono_l (keeps_mla c (grid0.coords t) _ _ _ _ _ _ _ _ _ _ _ _ _ _ _ _ _ _)).trans
    ((wp_frame_r _ _ _).trans (wp_mono _ _ _ fun _ => ?_)))
  · simp only [rdat, Pipeline.ΦA, scopedRest0_eq]
    iintro ⟨⟨⟨S0, S1, S2, S3, S4⟩, Hr⟩, Ho, H0, H1, H2, H3⟩
    ihave H0 := held_of_owns c _ _ $$ H0
    ihave H1 := held_of_owns c _ _ $$ H1
    ihave H2 := held_of_owns c _ _ $$ H2
    ihave H3 := held_of_owns c _ _ $$ H3
    ihave S0 := held_of_scratch c cc0_scratch0 $$ S0
    ihave S1 := held_of_scratch c cc0_scratch1 $$ S1
    ihave S2 := held_of_scratch c cc0_scratch2 $$ S2
    ihave S3 := held_of_scratch c cc0_scratch3 $$ S3
    ihave S4 := held_of_scratch c cc0_scratch4 $$ S4
    iframe
  · simp only [rdat, Pipeline.ΦA, scopedRest0_eq]
    iintro ⟨⟨H0, H1, H2, H3, S0, S1, S2, S3, S4⟩, Hr, Ho⟩
    ihave H0 := owns_of_held c _ $$ H0
    ihave H1 := owns_of_held c _ $$ H1
    ihave H2 := owns_of_held c _ $$ H2
    ihave H3 := owns_of_held c _ $$ H3
    ihave S0 := scratch_of_held c cc0_scratch0 $$ S0
    ihave S1 := scratch_of_held c cc0_scratch1 $$ S1
    ihave S2 := scratch_of_held c cc0_scratch2 $$ S2
    ihave S3 := scratch_of_held c cc0_scratch3 $$ S3
    ihave S4 := scratch_of_held c cc0_scratch4 $$ S4
    iframe
    iexact Ho

/-- The launch terminates with every argument unchanged and every counter at zero. -/
theorem frame_mla : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  RDat.θ_run_frame cfgs 0 launch0 defs₀ Variants.none (rdat m) m g main (body_safe m)
    (fun c w => by unfold RDat.share; split <;> rfl) (fun _ _ => rfl) (V m) (hmain m Variants.none) (fun _ _ => rfl) (fun _ _ => rfl) _
    fun r h => ⟨fun c => ⟨
      (h.1.arr_in c 0 rfl).trans (V_main_arg0 m c),
      (h.1.arr_in c 1 rfl).trans (V_main_arg1 m c),
      ((h.1 c).2 main_arg2 (Pipeline.mem_restRefs_of main_arg2 (by decide) (by decide))).trans (V_main_arg2 m c)⟩, h.2⟩

end Cert.Proof.MlaSafe

end
-- ==== Proof.MlaWalk.lean ====
module

public import proofs.«01_k».proof.Proof.Gen.Kernel3Ideal
public import Idealize.ShloMosaic.Lib.Exec
public import Idealize.ShloMosaic.Lib.Scf
public import Idealize.ShloMosaic.Lib.Tactic
public import Idealize.ShloMosaic.Lib.Writes
public import Idealize.ShloMosaic.Lib.Pointwise
public import Idealize.ShloMosaic.Lib.Pipeline.Kit

/-! Running the pipelined attention body with its buffers described by tables.

The body keeps five scratch buffers, each an array of cells (a cell is one slot, head of the pair and
chunk of queries). Which step of the online softmax a cell holds is written in a table of step numbers:
`some j` says the cell holds the `j`-th value of its sequence, `none` says nothing about it. A load from a
cell with a known step number yields that value, a store of the `j`-th value into a cell enters `j` in the
table. The rules here walk a program this way, load by load and store by store. -/

@[expose] public section

noncomputable section

namespace Cert.Proof.Mla

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What remains to be shown of a program `p` on core `c` ending in `Q`. -/
def WP (c : Dev nD) {α : Type} (p : Prog (TpuEff nD τ sig (Elt Ideal) Λ₀ .tc) α) (Q : α → sProp 𝕄) : sProp 𝕄 :=
  wp Idealize.ShloMosaic.frame (wpE (defs₀ (F := Ideal)) Variants.none (c : Thread nD τ) none) Set.univ p Q

/-- The memref `m`, whole, holding some array that satisfies `P`. -/
def heldP (c : Dev nD) {sp : Space} {s : Shape} {e : EltTy} (m : Memref sig .tc sp s e) (P : (s.Idx → Elt Ideal e) → Prop) : sProp 𝕄 :=
  iprop(∃ f, ⌜P (m.view.read (Elt Ideal) f)⌝ ∗ (m.view.loc (c : Thread nD τ) ↦[m.view.set]{fullShare} f))

variable {c : Dev nD} {H : sProp 𝕄}

/-- Returning a value. -/
theorem pureR {α : Type} {a : α} {Q : α → sProp 𝕄} (h : H ⊢ Q a) :
    H ⊢ WP c (pure a : Prog (TpuEff nD τ sig (Elt Ideal) Λ₀ .tc) α) Q := by
  unfold WP; rw [Prog.pure_eq_ret, wp_ret]
  iintro HH; imodintro; iapply h; iexact HH

/-- Two programs one after the other. -/
theorem bindR {α β : Type} {p : Prog (TpuEff nD τ sig (Elt Ideal) Λ₀ .tc) α} {k : α → Prog (TpuEff nD τ sig (Elt Ideal) Λ₀ .tc) β}
    {Q : β → sProp 𝕄} (h : H ⊢ WP c p (fun a => WP c (k a) Q)) : H ⊢ WP c (p >>= k) Q := by
  unfold WP at *; rw [wp_bind]; exact h

/-- A weaker conclusion. -/
theorem WP.mono {α : Type} {p : Prog (TpuEff nD τ sig (Elt Ideal) Λ₀ .tc) α} {Q Q' : α → sProp 𝕄} (h : H ⊢ WP c p Q) (hq : ∀ a, Q a ⊢ Q' a) :
    H ⊢ WP c p Q' := by
  unfold WP at *; exact h.trans (wp_mono _ _ _ hq)

/-- A counted loop, by an invariant. -/
theorem forR {w : Nat} {l : Scf.Loop w} {hok : l.OK} {init : PUnit}
    {body : Fin l.trips → PUnit → Prog (TpuEff nD τ sig (Elt Ideal) Λ₀ .tc) PUnit} {Q : PUnit → sProp 𝕄} (I : ℕ → sProp 𝕄)
    (h0 : H ⊢ I 0) (hb : ∀ k : Fin l.trips, I k.val ⊢ WP c (body k ⟨⟩) (fun _ => I (k.val + 1))) (hq : I l.trips ⊢ Q ⟨⟩) :
    H ⊢ WP c (Scf.Loop.for l hok init body) Q := by
  unfold WP
  refine .trans ?_ (Scf.wp_for Idealize.ShloMosaic.frame (wpE (defs₀ (F := Ideal)) Variants.none (c : Thread nD τ) none) Set.univ
    l.lb l.ub l.st hok init body (fun n _ => I n) fun k _ => hb k)
  iintro HH
  isplitl [HH]
  · iapply h0; iexact HH
  · iintro %acc HH
    iapply hq; iexact HH

/-- A load through a memref holding an array of which `P` is known: the value loaded is that array on the rectangle. -/
theorem loadR {cs : CoreSpace} {s : Shape} {e : EltTy} {m : Memref sig .tc cs s e} {P : (s.Idx → Elt Ideal e) → Prop}
    {r : LoadRect s} {hl : m.view.LoadsAt r} {Q : (r.shape.Idx → Elt Ideal e) → sProp 𝕄}
    (hm : H ⊢ iprop(heldP c m P ∗ (heldP c m P -∗ H)))
    (h : ∀ X, P X → H ⊢ Q (fun x => X (r.idx x))) :
    H ⊢ WP c (Prog.lift (.load m r hl) : Prog (TpuEff nD τ sig (Elt Ideal) Λ₀ .tc) _) Q := by
  unfold WP Prog.lift
  unfold heldP at hm
  iintro HH
  ihave HH := hm $$ HH
  icases HH with ⟨⟨%f, %hP, Hm⟩, Hback⟩
  iapply (wp_load (Val := Elt Ideal) Variants.none (c : Thread nD τ) none Set.univ (m.view.setOn_subset_set _)) $$ Hm
  iintro Hm
  rw [wp_ret]; imodintro
  rw [show m.view.readAt (Elt Ideal) r f = fun x => m.view.read (Elt Ideal) f (r.idx x) from rfl]
  iapply (h _ hP)
  iapply Hback
  iexists f
  isplitr
  · ipureintro; exact hP
  iexact Hm

/-- A store through a memref: on the rectangle the array becomes the payload, elsewhere it stays. -/
theorem storeR {H' : sProp 𝕄} {cs : CoreSpace} {s : Shape} {e : EltTy} {m : Memref sig .tc cs s e} {P P' : (s.Idx → Elt Ideal e) → Prop}
    {r : Rect s} {w : r.shape.Idx → Elt Ideal e} {hx : (m.access r).Stores Finset.univ}
    {hu : Finset.univ = (Finset.univ : Finset r.shape.Idx) ∨ ∀ a, r.stride a = 1} {Q : PUnit → sProp 𝕄}
    (hm : H ⊢ iprop(heldP c m P ∗ (heldP c m P' -∗ H')))
    (hP : ∀ X X', P X → (∀ x, X' (r.emb x) = w x) → (∀ y, y ∉ r.set → X' y = X y) → P' X')
    (h : H' ⊢ Q ⟨⟩) :
    H ⊢ WP c (Prog.lift (.store m r w Finset.univ hx hu) : Prog (TpuEff nD τ sig (Elt Ideal) Λ₀ .tc) _) Q := by
  unfold WP Prog.lift
  unfold heldP at hm
  iintro HH
  ihave HH := hm $$ HH
  icases HH with ⟨⟨%f, %hX, Hm⟩, Hback⟩
  iapply (wp_store (Val := Elt Ideal) Variants.none (c : Thread nD τ) none Set.univ (hx := hx)
    (((m.access r).setOn_subset_set Finset.univ).trans (m.view.set_slice_subset r))) $$ Hm
  iintro Hm
  rw [wp_ret]; imodintro
  iapply h
  iapply Hback
  iexists _
  isplitr
  · ipureintro
    exact hP _ _ hX (fun x => View.read_writes_cons_emb m.view f r w [] x)
      (fun y hy => View.read_writes_cons_miss m.view f ⟨r, w⟩ [] y hy)
  iexact Hm

/-! ## Tables of cells -/

/-- The value of a cell at a step: head, chunk, step, row, column. -/
abbrev Seq := ℕ → ℕ → ℕ → ℕ → ℕ → EReal

/-- Which step each cell holds, by slot, head and chunk. -/
abbrev Tab3 := ℕ → ℕ → ℕ → Option ℕ

/-- Which step each cell holds, by head and chunk. -/
abbrev Tab2 := ℕ → ℕ → Option ℕ

/-- Enter a step number. -/
def put3 (T : Tab3) (s e h j : ℕ) : Tab3 := fun s' e' h' => bif (s' == s) && ((e' == e) && (h' == h)) then some j else T s' e' h'

/-- Enter a step number. -/
def put2 (T : Tab2) (e h j : ℕ) : Tab2 := fun e' h' => bif (e' == e) && (h' == h) then some j else T e' h'

/-- The array holds, in every cell whose step is known, the value of that step. -/
def Holds5 (M : Seq) (T : Tab3) {a b : ℕ} (X : (⟨5, ![2, 2, 4, a, b]⟩ : Shape).Idx → EReal) : Prop :=
  ∀ y j, T (y 0).val (y 1).val (y 2).val = some j → X y = M (y 1).val (y 2).val j (y 3).val (y 4).val

/-- The same for the buffers without slots. -/
def Holds4 (M : Seq) (T : Tab2) {a b : ℕ} (X : (⟨4, ![2, 4, a, b]⟩ : Shape).Idx → EReal) : Prop :=
  ∀ y j, T (y 0).val (y 1).val = some j → X y = M (y 0).val (y 1).val j (y 2).val (y 3).val

/-- A loaded or stored cell is the `j`-th value of its sequence. -/
def Cell5 (M : Seq) (e h j : ℕ) {a b : ℕ} (x : (⟨5, ![1, 1, 1, a, b]⟩ : Shape).Idx → EReal) : Prop :=
  ∀ y, x y = M e h j (y 3).val (y 4).val

/-- The same for the buffers without slots. -/
def Cell4 (M : Seq) (e h j : ℕ) {a b : ℕ} (x : (⟨4, ![1, 1, a, b]⟩ : Shape).Idx → EReal) : Prop :=
  ∀ y, x y = M e h j (y 2).val (y 3).val

/-- A load through one cell of a table reads the model's tile. -/
theorem Holds5.load {M : Seq} {T : Tab3} {a b : ℕ} {X : (⟨5, ![2, 2, 4, a, b]⟩ : Shape).Idx → EReal} (hX : Holds5 M T X) {s e h j : ℕ}
    (hT : T s e h = some j) {inb : ∀ i, (![s, e, h, 0, 0] : Fin 5 → ℕ) i + (⟨5, ![1, 1, 1, a, b]⟩ : Shape).size i ≤ (⟨5, ![2, 2, 4, a, b]⟩ : Shape).size i} :
    Cell5 M e h j (a := a) (b := b) (fun x => X ((Rect.unit (s := ⟨5, ![2, 2, 4, a, b]⟩) ![s, e, h, 0, 0] (⟨5, ![1, 1, 1, a, b]⟩ : Shape).size inb).toLoadRect.idx x)) := by
  intro y
  have h0 : (y 0).val = 0 := Nat.lt_one_iff.mp (y 0).isLt
  have h1 : (y 1).val = 0 := Nat.lt_one_iff.mp (y 1).isLt
  have h2 : (y 2).val = 0 := Nat.lt_one_iff.mp (y 2).isLt
  have := hX ((Rect.unit (s := ⟨5, ![2, 2, 4, a, b]⟩) ![s, e, h, 0, 0] (⟨5, ![1, 1, 1, a, b]⟩ : Shape).size inb).toLoadRect.idx y) j
  have e0 : ((Rect.unit (s := ⟨5, ![2, 2, 4, a, b]⟩) ![s, e, h, 0, 0] (⟨5, ![1, 1, 1, a, b]⟩ : Shape).size inb).toLoadRect.idx y 0).val = s + 1 * (y 0).val := rfl
  have e1 : ((Rect.unit (s := ⟨5, ![2, 2, 4, a, b]⟩) ![s, e, h, 0, 0] (⟨5, ![1, 1, 1, a, b]⟩ : Shape).size inb).toLoadRect.idx y 1).val = e + 1 * (y 1).val := rfl
  have e2 : ((Rect.unit (s := ⟨5, ![2, 2, 4, a, b]⟩) ![s, e, h, 0, 0] (⟨5, ![1, 1, 1, a, b]⟩ : Shape).size inb).toLoadRect.idx y 2).val = h + 1 * (y 2).val := rfl
  have e3 : ((Rect.unit (s := ⟨5, ![2, 2, 4, a, b]⟩) ![s, e, h, 0, 0] (⟨5, ![1, 1, 1, a, b]⟩ : Shape).size inb).toLoadRect.idx y 3).val = 0 + 1 * (y 3).val := rfl
  have e4 : ((Rect.unit (s := ⟨5, ![2, 2, 4, a, b]⟩) ![s, e, h, 0, 0] (⟨5, ![1, 1, 1, a, b]⟩ : Shape).size inb).toLoadRect.idx y 4).val = 0 + 1 * (y 4).val := rfl
  rw [e0, e1, e2, e3, e4, h0, h1, h2] at this
  simp only [Nat.mul_zero, Nat.add_zero, Nat.zero_add, Nat.one_mul] at this
  exact this hT

/-- A load through one cell of a table reads the model's tile. -/
theorem Holds4.load {M : Seq} {T : Tab2} {a b : ℕ} {X : (⟨4, ![2, 4, a, b]⟩ : Shape).Idx → EReal} (hX : Holds4 M T X) {e h j : ℕ}
    (hT : T e h = some j) {inb : ∀ i, (![e, h, 0, 0] : Fin 4 → ℕ) i + (⟨4, ![1, 1, a, b]⟩ : Shape).size i ≤ (⟨4, ![2, 4, a, b]⟩ : Shape).size i} :
    Cell4 M e h j (a := a) (b := b) (fun x => X ((Rect.unit (s := ⟨4, ![2, 4, a, b]⟩) ![e, h, 0, 0] (⟨4, ![1, 1, a, b]⟩ : Shape).size inb).toLoadRect.idx x)) := by
  intro y
  have h0 : (y 0).val = 0 := Nat.lt_one_iff.mp (y 0).isLt
  have h1 : (y 1).val = 0 := Nat.lt_one_iff.mp (y 1).isLt
  have := hX ((Rect.unit (s := ⟨4, ![2, 4, a, b]⟩) ![e, h, 0, 0] (⟨4, ![1, 1, a, b]⟩ : Shape).size inb).toLoadRect.idx y) j
  have e0 : ((Rect.unit (s := ⟨4, ![2, 4, a, b]⟩) ![e, h, 0, 0] (⟨4, ![1, 1, a, b]⟩ : Shape).size inb).toLoadRect.idx y 0).val = e + 1 * (y 0).val := rfl
  have e1 : ((Rect.unit (s := ⟨4, ![2, 4, a, b]⟩) ![e, h, 0, 0] (⟨4, ![1, 1, a, b]⟩ : Shape).size inb).toLoadRect.idx y 1).val = h + 1 * (y 1).val := rfl
  have e2 : ((Rect.unit (s := ⟨4, ![2, 4, a, b]⟩) ![e, h, 0, 0] (⟨4, ![1, 1, a, b]⟩ : Shape).size inb).toLoadRect.idx y 2).val = 0 + 1 * (y 2).val := rfl
  have e3 : ((Rect.unit (s := ⟨4, ![2, 4, a, b]⟩) ![e, h, 0, 0] (⟨4, ![1, 1, a, b]⟩ : Shape).size inb).toLoadRect.idx y 3).val = 0 + 1 * (y 3).val := rfl
  rw [e0, e1, e2, e3, h0, h1] at this
  simp only [Nat.mul_zero, Nat.add_zero, Nat.zero_add, Nat.one_mul] at this
  exact this hT

/-- A store of the model's tile into one cell updates the table there. -/
theorem Holds5.store {M : Seq} {T : Tab3} {a b : ℕ} {X X' : (⟨5, ![2, 2, 4, a, b]⟩ : Shape).Idx → EReal} (hX : Holds5 M T X) {s e h j : ℕ}
    {inb : ∀ i, (![s, e, h, 0, 0] : Fin 5 → ℕ) i + (⟨5, ![1, 1, 1, a, b]⟩ : Shape).size i ≤ (⟨5, ![2, 2, 4, a, b]⟩ : Shape).size i}
    {w : (⟨5, ![1, 1, 1, a, b]⟩ : Shape).Idx → EReal} (hw : Cell5 M e h j w)
    (h1 : ∀ x : (⟨5, ![1, 1, 1, a, b]⟩ : Shape).Idx, X' ((Rect.unit (s := ⟨5, ![2, 2, 4, a, b]⟩) ![s, e, h, 0, 0] (⟨5, ![1, 1, 1, a, b]⟩ : Shape).size inb).emb x) = w x)
    (h2 : ∀ y, y ∉ (Rect.unit (s := ⟨5, ![2, 2, 4, a, b]⟩) ![s, e, h, 0, 0] (⟨5, ![1, 1, 1, a, b]⟩ : Shape).size inb).set → X' y = X y) :
    Holds5 M (put3 T s e h j) X' := by
  intro y i hi
  unfold put3 at hi
  by_cases hy : (y 0).val = s ∧ (y 1).val = e ∧ (y 2).val = h
  · obtain ⟨rfl, rfl, rfl⟩ := hy
    simp only [beq_self_eq_true, Bool.and_self, cond_true, Option.some.injEq] at hi
    subst hi
    have hy' : (Rect.unit (s := ⟨5, ![2, 2, 4, a, b]⟩) ![(y 0).val, (y 1).val, (y 2).val, 0, 0] (⟨5, ![1, 1, 1, a, b]⟩ : Shape).size inb).emb
        (Idealize.ShloMosaic.ix5 (n0 := 1) (n1 := 1) (n2 := 1) (n3 := a) (n4 := b) 0 0 0 (y 3) (y 4)) = y := by
      apply Rect.emb_eq_of_coords
      intro i
      fin_cases i
      · show (y 0).val = (y 0).val + 1 * 0; omega
      · show (y 1).val = (y 1).val + 1 * 0; omega
      · show (y 2).val = (y 2).val + 1 * 0; omega
      · show (y 3).val = 0 + 1 * (y 3).val; omega
      · show (y 4).val = 0 + 1 * (y 4).val; omega
    have h1' := h1 (Idealize.ShloMosaic.ix5 (n0 := 1) (n1 := 1) (n2 := 1) (n3 := a) (n4 := b) 0 0 0 (y 3) (y 4))
    rw [hy', hw] at h1'
    exact h1'
  · have : ¬ ((y 0).val == s && ((y 1).val == e && (y 2).val == h)) = true := by
      simpa only [Bool.and_eq_true, beq_iff_eq] using hy
    rw [Bool.eq_false_iff.mpr this, cond_false] at hi
    rw [h2 y, hX y i hi]
    intro hmem
    apply hy
    have m := Rect.mem_set_unit.mp hmem
    have m0 : s ≤ (y 0).val ∧ (y 0).val < s + 1 := m 0
    have m1 : e ≤ (y 1).val ∧ (y 1).val < e + 1 := m 1
    have m2 : h ≤ (y 2).val ∧ (y 2).val < h + 1 := m 2
    omega

/-- A store of the model's tile into one cell updates the table there. -/
theorem Holds4.store {M : Seq} {T : Tab2} {a b : ℕ} {X X' : (⟨4, ![2, 4, a, b]⟩ : Shape).Idx → EReal} (hX : Holds4 M T X) {e h j : ℕ}
    {inb : ∀ i, (![e, h, 0, 0] : Fin 4 → ℕ) i + (⟨4, ![1, 1, a, b]⟩ : Shape).size i ≤ (⟨4, ![2, 4, a, b]⟩ : Shape).size i}
    {w : (⟨4, ![1, 1, a, b]⟩ : Shape).Idx → EReal} (hw : Cell4 M e h j w)
    (h1 : ∀ x : (⟨4, ![1, 1, a, b]⟩ : Shape).Idx, X' ((Rect.unit (s := ⟨4, ![2, 4, a, b]⟩) ![e, h, 0, 0] (⟨4, ![1, 1, a, b]⟩ : Shape).size inb).emb x) = w x)
    (h2 : ∀ y, y ∉ (Rect.unit (s := ⟨4, ![2, 4, a, b]⟩) ![e, h, 0, 0] (⟨4, ![1, 1, a, b]⟩ : Shape).size inb).set → X' y = X y) :
    Holds4 M (put2 T e h j) X' := by
  intro y i hi
  unfold put2 at hi
  by_cases hy : (y 0).val = e ∧ (y 1).val = h
  · obtain ⟨rfl, rfl⟩ := hy
    simp only [beq_self_eq_true, Bool.and_self, cond_true, Option.some.injEq] at hi
    subst hi
    have hy' : (Rect.unit (s := ⟨4, ![2, 4, a, b]⟩) ![(y 0).val, (y 1).val, 0, 0] (⟨4, ![1, 1, a, b]⟩ : Shape).size inb).emb
        (Idealize.ShloMosaic.ix4 (n0 := 1) (n1 := 1) (n2 := a) (n3 := b) 0 0 (y 2) (y 3)) = y := by
      apply Rect.emb_eq_of_coords
      intro i
      fin_cases i
      · show (y 0).val = (y 0).val + 1 * 0; omega
      · show (y 1).val = (y 1).val + 1 * 0; omega
      · show (y 2).val = 0 + 1 * (y 2).val; omega
      · show (y 3).val = 0 + 1 * (y 3).val; omega
    have h1' := h1 (Idealize.ShloMosaic.ix4 (n0 := 1) (n1 := 1) (n2 := a) (n3 := b) 0 0 (y 2) (y 3))
    rw [hy', hw] at h1'
    exact h1'
  · have : ¬ ((y 0).val == e && (y 1).val == h) = true := by
      simpa only [Bool.and_eq_true, beq_iff_eq] using hy
    rw [Bool.eq_false_iff.mpr this, cond_false] at hi
    rw [h2 y, hX y i hi]
    intro hmem
    apply hy
    have m := Rect.mem_set_unit.mp hmem
    have m0 : e ≤ (y 0).val ∧ (y 0).val < e + 1 := m 0
    have m1 : h ≤ (y 1).val ∧ (y 1).val < h + 1 := m 1
    omega

/-! ## The state of the body -/

/-- The buffers the body runs on: the three staged inputs, the staged output, and the scratch for logits,
    weights, rescalings, running maxima and accumulators. -/
structure Bufs where
  q : Memref sig .tc .vmem S1x4096x256 .bf16
  k : Memref sig .tc .vmem S1x4096x256 .bf16
  v : Memref sig .tc .vmem S1x32x160x128 .bf16
  o : Memref sig .tc .vmem S1x4096x128 .bf16
  s : Memref sig .tc .vmem S2x2x4x256x256 .f32
  p : Memref sig .tc .vmem S2x2x4x256x256 .bf16
  a : Memref sig .tc .vmem S2x2x4x1x256 .f32
  m : Memref sig .tc .vmem S2x4x1x256 .f32
  acc : Memref sig .tc .vmem S2x4x80x256 .f32

/-- The inputs' contents. -/
structure Ins where
  q : S1x4096x256.Idx → EReal
  k : S1x4096x256.Idx → EReal
  v : S1x32x160x128.Idx → EReal

/-- The sequences of values the scratch cells go through. -/
structure Mdl where
  s : Seq
  p : Seq
  a : Seq
  m : Seq
  acc : Seq

/-- The inputs are `X`, the output satisfies `O`, and the scratch holds the values of `M` at the steps the five tables name. -/
def St (c : Dev nD) (B : Bufs) (X : Ins) (M : Mdl) (O : (S1x4096x128.Idx → EReal) → Prop) (ts tp ta : Tab3) (tm tc : Tab2) : sProp 𝕄 :=
  iprop(heldP c B.q (· = X.q) ∗ heldP c B.k (· = X.k) ∗ heldP c B.v (· = X.v) ∗ heldP c B.o O
    ∗ heldP c B.s (Holds5 M.s ts) ∗ heldP c B.p (Holds5 M.p tp) ∗ heldP c B.a (Holds5 M.a ta)
    ∗ heldP c B.m (Holds4 M.m tm) ∗ heldP c B.acc (Holds4 M.acc tc))

variable {B : Bufs} {X : Ins} {M : Mdl} {O : (S1x4096x128.Idx → EReal) → Prop} {ts tp ta : Tab3} {tm tc : Tab2}

/-- The state lends the queries. -/
theorem lend_q : St c B X M O ts tp ta tm tc ⊢ iprop(heldP c B.q (· = X.q) ∗ (heldP c B.q (· = X.q) -∗ St c B X M O ts tp ta tm tc)) := by
  unfold St
  iintro ⟨H, HR⟩
  isplitl [H]; · iexact H
  iintro H; iframe

/-- The state lends the keys. -/
theorem lend_k : St c B X M O ts tp ta tm tc ⊢ iprop(heldP c B.k (· = X.k) ∗ (heldP c B.k (· = X.k) -∗ St c B X M O ts tp ta tm tc)) := by
  unfold St
  iintro ⟨H0, H, HR⟩
  isplitl [H]; · iexact H
  iintro H; iframe

/-- The state lends the values. -/
theorem lend_v : St c B X M O ts tp ta tm tc ⊢ iprop(heldP c B.v (· = X.v) ∗ (heldP c B.v (· = X.v) -∗ St c B X M O ts tp ta tm tc)) := by
  unfold St
  iintro ⟨H0, H1, H, HR⟩
  isplitl [H]; · iexact H
  iintro H; iframe

/-- The state lends the output block. -/
theorem lend_o (O' : (S1x4096x128.Idx → EReal) → Prop) : St c B X M O ts tp ta tm tc ⊢ iprop(heldP c B.o O ∗ (heldP c B.o O' -∗ St c B X M O' ts tp ta tm tc)) := by
  unfold St
  iintro ⟨H0, H1, H2, H, HR⟩
  isplitl [H]; · iexact H
  iintro H; iframe

/-- The state lends the scores. -/
theorem lend_s (ts' : Tab3) : St c B X M O ts tp ta tm tc ⊢ iprop(heldP c B.s (Holds5 M.s ts) ∗ (heldP c B.s (Holds5 M.s ts') -∗ St c B X M O ts' tp ta tm tc)) := by
  unfold St
  iintro ⟨H0, H1, H2, H3, H, HR⟩
  isplitl [H]; · iexact H
  iintro H; iframe

/-- The state lends the weights. -/
theorem lend_p (tp' : Tab3) : St c B X M O ts tp ta tm tc ⊢ iprop(heldP c B.p (Holds5 M.p tp) ∗ (heldP c B.p (Holds5 M.p tp') -∗ St c B X M O ts tp' ta tm tc)) := by
  unfold St
  iintro ⟨H0, H1, H2, H3, H4, H, HR⟩
  isplitl [H]; · iexact H
  iintro H; iframe

/-- The state lends the rescaling factors. -/
theorem lend_a (ta' : Tab3) : St c B X M O ts tp ta tm tc ⊢ iprop(heldP c B.a (Holds5 M.a ta) ∗ (heldP c B.a (Holds5 M.a ta') -∗ St c B X M O ts tp ta' tm tc)) := by
  unfold St
  iintro ⟨H0, H1, H2, H3, H4, H5, H, HR⟩
  isplitl [H]; · iexact H
  iintro H; iframe

/-- The state lends the running maxima. -/
theorem lend_m (tm' : Tab2) : St c B X M O ts tp ta tm tc ⊢ iprop(heldP c B.m (Holds4 M.m tm) ∗ (heldP c B.m (Holds4 M.m tm') -∗ St c B X M O ts tp ta tm' tc)) := by
  unfold St
  iintro ⟨H0, H1, H2, H3, H4, H5, H6, H, HR⟩
  isplitl [H]; · iexact H
  iintro H; iframe

/-- The state lends the sums. -/
theorem lend_acc (tc' : Tab2) : St c B X M O ts tp ta tm tc ⊢ iprop(heldP c B.acc (Holds4 M.acc tc) ∗ (heldP c B.acc (Holds4 M.acc tc') -∗ St c B X M O ts tp ta tm tc')) := by
  unfold St
  iintro ⟨H0, H1, H2, H3, H4, H5, H6, H7, H⟩
  isplitl [H]; · iexact H
  iintro H; iframe

/-- Tables that know less. -/
theorem St.mono {O' : (S1x4096x128.Idx → EReal) → Prop} {ts' tp' ta' : Tab3} {tm' tc' : Tab2} (hO : ∀ Y, O Y → O' Y)
    (hs : ∀ s < 2, ∀ e < 2, ∀ h < 4, ∀ j, ts' s e h = some j → ts s e h = some j)
    (hp : ∀ s < 2, ∀ e < 2, ∀ h < 4, ∀ j, tp' s e h = some j → tp s e h = some j)
    (ha : ∀ s < 2, ∀ e < 2, ∀ h < 4, ∀ j, ta' s e h = some j → ta s e h = some j)
    (hm : ∀ e < 2, ∀ h < 4, ∀ j, tm' e h = some j → tm e h = some j)
    (hc : ∀ e < 2, ∀ h < 4, ∀ j, tc' e h = some j → tc e h = some j) :
    St c B X M O ts tp ta tm tc ⊢ St c B X M O' ts' tp' ta' tm' tc' := by
  unfold St heldP
  iintro ⟨H0, H1, H2, ⟨%f3, %h3, H3⟩, ⟨%f4, %h4, H4⟩, ⟨%f5, %h5, H5⟩, ⟨%f6, %h6, H6⟩, ⟨%f7, %h7, H7⟩, ⟨%f8, %h8, H8⟩⟩
  iframe
  isplitl [H3]
  · iexists f3; isplitr
    · ipureintro; exact hO _ h3
    iexact H3
  isplitl [H4]
  · iexists f4; isplitr
    · ipureintro; intro y j hj; exact h4 y j (hs _ (y 0).isLt _ (y 1).isLt _ (y 2).isLt _ hj)
    iexact H4
  isplitl [H5]
  · iexists f5; isplitr
    · ipureintro; intro y j hj; exact h5 y j (hp _ (y 0).isLt _ (y 1).isLt _ (y 2).isLt _ hj)
    iexact H5
  isplitl [H6]
  · iexists f6; isplitr
    · ipureintro; intro y j hj; exact h6 y j (ha _ (y 0).isLt _ (y 1).isLt _ (y 2).isLt _ hj)
    iexact H6
  isplitl [H7]
  · iexists f7; isplitr
    · ipureintro; intro y j hj; exact h7 y j (hm _ (y 0).isLt _ (y 1).isLt _ hj)
    iexact H7
  · iexists f8; isplitr
    · ipureintro; intro y j hj; exact h8 y j (hc _ (y 0).isLt _ (y 1).isLt _ hj)
    iexact H8

end Cert.Proof.Mla

end
-- ==== Proof.MlaModel.lean ====
module

public import proofs.«01_k».proof.Proof.MlaWalk
public import Idealize.ShloMosaic.Lib.WordCmp

/-! The values the latent attention's scratch cells go through.

One call of the body works on one batch entry and a pair of heads, one block of 1024 queries at a time (`t`
is the block), in four chunks of 256 queries. The keys come in tiles of 256. Step `j` of a cell belongs to
the key tile `j - 2`: the pipeline starts with two empty steps. -/

@[expose] public section

set_option maxRecDepth 16384

noncomputable section

namespace Cert.Proof.Mla

open Cert.Kernel3Ideal Cert.Kernel3Ideal.Gen
open Idealize.ShloMosaic Idealize.ShloMosaic.TcCoe

/-- An array of queries or keys, read at a row and a lane. -/
def rd3 (x : S1x4096x256.Idx → EReal) (r l : ℕ) : EReal :=
  if h : r < 4096 ∧ l < 256 then x (Idealize.ShloMosaic.ix3 0 ⟨r, h.1⟩ ⟨l, h.2⟩) else 0

/-- An array of values, read at a block of 128 keys, a row and a key of the block. -/
def rd4 (x : S1x32x160x128.Idx → EReal) (b r l : ℕ) : EReal :=
  if h : b < 32 ∧ r < 160 ∧ l < 128 then x (Idealize.ShloMosaic.ix4 0 ⟨b, h.1⟩ ⟨r, h.2.1⟩ ⟨l, h.2.2⟩) else 0

/-- The product of a key and a query of head `e`. -/
def dotKQ (X : Ins) (e k q : ℕ) : EReal := ∑ x : Fin 128, rd3 X.k k (128 * e + x.val) * rd3 X.q q (128 * e + x.val)

/-- The running maximum the cell is rescaled by: `-∞` is replaced by zero. -/
def safe (x : EReal) : EReal := if x = ⊥ then 0 else x

/-- The masked logits of step `j`: key `i` of its tile against query `q` of chunk `h`. -/
def mS (X : Ins) (t e h j i q : ℕ) : EReal :=
  if j < 2 then ⊥ else if 256 * (j - 2) + i ≤ 1024 * t + (256 * h + q) then dotKQ X e (256 * (j - 2) + i) (1024 * t + (256 * h + q)) else ⊥

/-- The running maximum before step `j`. -/
def mM (X : Ins) (t e h : ℕ) : ℕ → ℕ → EReal
  | 0, _ => ⊥
  | j + 1, q => max (mM X t e h j q) (Finset.univ.fold max ⊥ fun i : Fin 256 => mS X t e h j i.val q)

/-- The weights of step `j`. -/
def mP (X : Ins) (t e h j i q : ℕ) : EReal := Ideal.exp2 (mS X t e h j i q - safe (mM X t e h (j + 1) q))

/-- The rescaling of step `j`. -/
def mA (X : Ins) (t e h j q : ℕ) : EReal :=
  if j = 0 then 1 else Ideal.exp2 (mM X t e h j q - safe (mM X t e h (j + 1) q))

/-- The accumulator before step `j`: row `d` of the weighted sum of values. -/
def mC (X : Ins) (t e h : ℕ) : ℕ → ℕ → ℕ → EReal
  | 0, _, _ => 0
  | j + 1, d, q => mC X t e h j d q * mA X t e h j q
      + (∑ x : Fin 128, rd4 X.v (2 * (j - 2) + 0) (80 * e + d) x.val * mP X t e h j x.val q
        + ∑ x : Fin 128, rd4 X.v (2 * (j - 2) + 1) (80 * e + d) x.val * mP X t e h j (128 + x.val) q)

/-- The five sequences. -/
@[reducible] def mdl (X : Ins) (t : ℕ) : Mdl where
  s e h j i q := mS X t e h j i q
  p e h j i q := mP X t e h j i q
  a e h j _ q := mA X t e h j q
  m e h j _ q := mM X t e h j q
  acc e h j d q := mC X t e h j d q

/-- A loaded block of 1024 queries of head `e`. -/
def QCell (X : Ins) (t e : ℕ) (x : FVec Ideal S1x1024x128 .bf16) : Prop :=
  ∀ a b, x (Idealize.ShloMosaic.ix3 0 a b) = rd3 X.q (1024 * t + a.val) (128 * e + b.val)

/-- A loaded tile of 256 keys of head `e`. -/
def KCell (X : Ins) (e jt : ℕ) (x : FVec Ideal S1x256x128 .bf16) : Prop :=
  ∀ a b, x (Idealize.ShloMosaic.ix3 0 a b) = rd3 X.k (256 * jt + a.val) (128 * e + b.val)

/-- A loaded block of values of head `e`. -/
def VCell (X : Ins) (e b : ℕ) (x : FVec Ideal S1x1x80x128 .bf16) : Prop :=
  ∀ d l, x (Idealize.ShloMosaic.ix4 0 0 d l) = rd4 X.v b (80 * e + d.val) l.val

/-- The pattern the maxima start from is that of `−∞`. -/
theorem neg_inf : (FloatOps.ofBits .f32 0xFF800000#32 : Ideal .f32) = (⊥ : EReal) := by
  show Ideal.ofBits .f32 0xFF800000#32 = ⊥
  simp [Ideal.ofBits, Ideal.ieee]

/-- An index of one tile of scores or weights is given by its last two coordinates. -/
theorem eq_ix5 {a b : ℕ} (y : (⟨5, ![1, 1, 1, a, b]⟩ : Shape).Idx) :
    y = Idealize.ShloMosaic.ix5 (n0 := 1) (n1 := 1) (n2 := 1) (n3 := a) (n4 := b) 0 0 0 (y 3) (y 4) := by
  have h0 : (y 0).val = 0 := Nat.lt_one_iff.mp (y 0).isLt
  have h1 : (y 1).val = 0 := Nat.lt_one_iff.mp (y 1).isLt
  have h2 : (y 2).val = 0 := Nat.lt_one_iff.mp (y 2).isLt
  funext i
  apply Fin.ext
  fin_cases i
  · exact h0
  · exact h1
  · exact h2
  · rfl
  · rfl

/-- An index of one tile of maxima or sums is given by its last two coordinates. -/
theorem eq_ix4 {a b : ℕ} (y : (⟨4, ![1, 1, a, b]⟩ : Shape).Idx) :
    y = Idealize.ShloMosaic.ix4 (n0 := 1) (n1 := 1) (n2 := a) (n3 := b) 0 0 (y 2) (y 3) := by
  have h0 : (y 0).val = 0 := Nat.lt_one_iff.mp (y 0).isLt
  have h1 : (y 1).val = 0 := Nat.lt_one_iff.mp (y 1).isLt
  funext i
  apply Fin.ext
  fin_cases i
  · exact h0
  · exact h1
  · rfl
  · rfl

/-- An array is the model's tile if it is so at every row and column. -/
theorem Cell5.of {M : Seq} {e h j a b : ℕ} {x : (⟨5, ![1, 1, 1, a, b]⟩ : Shape).Idx → EReal}
    (hx : ∀ (i : Fin a) (k : Fin b), x (Idealize.ShloMosaic.ix5 0 0 0 i k) = M e h j i.val k.val) : Cell5 M e h j x := by
  intro y; rw [eq_ix5 y]; exact hx _ _

/-- An array is the model's tile if it is so at every row and column. -/
theorem Cell4.of {M : Seq} {e h j a b : ℕ} {x : (⟨4, ![1, 1, a, b]⟩ : Shape).Idx → EReal}
    (hx : ∀ (i : Fin a) (k : Fin b), x (Idealize.ShloMosaic.ix4 0 0 i k) = M e h j i.val k.val) : Cell4 M e h j x := by
  intro y; rw [eq_ix4 y]; exact hx _ _

/-- The model's tile read at a row and column. -/
theorem Cell5.at {M : Seq} {e h j a b : ℕ} {x : (⟨5, ![1, 1, 1, a, b]⟩ : Shape).Idx → EReal} (hx : Cell5 M e h j x)
    (i : Fin a) (k : Fin b) : x (Idealize.ShloMosaic.ix5 0 0 0 i k) = M e h j i.val k.val := hx _

/-- The model's tile read at a row and column. -/
theorem Cell4.at {M : Seq} {e h j a b : ℕ} {x : (⟨4, ![1, 1, a, b]⟩ : Shape).Idx → EReal} (hx : Cell4 M e h j x)
    (i : Fin a) (k : Fin b) : x (Idealize.ShloMosaic.ix4 0 0 i k) = M e h j i.val k.val := hx _

variable {X : Ins} {t e h j : ℕ}

/-- The new running maximum, as the body computes it from a cell of logits and the old one. -/
abbrev newMax (s : FVec Ideal S1x1x1x256x256 .f32) (m : FVec Ideal S1x1x1x256 .f32) : FVec Ideal S1x256 .f32 :=
  maximumf (shapeCast S1x256 m shapeCasts_S1x1x1x256_S1x256)
    (shapeCast S1x256 (multiReduction .maximumf [0] S256 (shapeCast S256x256 s shapeCasts_S1x1x1x256x256_S256x256) 0xFF800000#32 reduces_S256x256_S256 (.inl rfl) rfl) shapeCasts_S256_S1x256)

/-- The maximum the body rescales by. -/
abbrev newSafe (s : FVec Ideal S1x1x1x256x256 .f32) (m : FVec Ideal S1x1x1x256 .f32) : FVec Ideal S1x256 .f32 :=
  select (cmpf .oeq (newMax s m) (broadcast S1x256 (Scalar.ofBits .f32 0xFF800000#32 : Ideal .f32)))
    (broadcast S1x256 (Scalar.ofBits .f32 0x00000000#32 : Ideal .f32)) (newMax s m)

/-- The running maximum after one more tile of scores. -/
theorem newMax_apply {s : FVec Ideal S1x1x1x256x256 .f32} {m : FVec Ideal S1x1x1x256 .f32}
    (hs : Cell5 (mdl X t).s e h j s) (hm : Cell4 (mdl X t).m e h j m) (q : Fin 256) :
    newMax s m (Idealize.ShloMosaic.ix2 0 q) = mM X t e h (j + 1) q.val := by
  pointwise
  rw [show Ideal.ofBits .f32 0xFF800000#32 = ⊥ from neg_inf, hm.at 0 q]
  simp only [hs.at]
  rfl

/-- The running maximum after one more tile of scores, with `−∞` replaced so that it can be subtracted. -/
theorem newSafe_apply {s : FVec Ideal S1x1x1x256x256 .f32} {m : FVec Ideal S1x1x1x256 .f32}
    (hs : Cell5 (mdl X t).s e h j s) (hm : Cell4 (mdl X t).m e h j m) (q : Fin 256) :
    newSafe s m (Idealize.ShloMosaic.ix2 0 q) = safe (mM X t e h (j + 1) q.val) := by
  have := newMax_apply hs hm q
  unfold newSafe
  generalize newMax s m = w at *
  pointwise
  rw [show Ideal.ofBits .f32 0xFF800000#32 = ⊥ from neg_inf, this]
  rfl

/-- The running maximum stored. -/
theorem m_step {s : FVec Ideal S1x1x1x256x256 .f32} {m : FVec Ideal S1x1x1x256 .f32}
    (hs : Cell5 (mdl X t).s e h j s) (hm : Cell4 (mdl X t).m e h j m) :
    Cell4 (mdl X t).m e h (j + 1) (shapeCast S1x1x1x256 (newMax s m) shapeCasts_S1x256_S1x1x1x256) := by
  apply Cell4.of
  intro z q
  have := newMax_apply hs hm q
  generalize newMax s m = w at *
  obtain rfl : z = 0 := Subsingleton.elim _ _
  pointwise
  exact this

/-- The weights stored. -/
theorem p_step {s : FVec Ideal S1x1x1x256x256 .f32} {m : FVec Ideal S1x1x1x256 .f32}
    (hs : Cell5 (mdl X t).s e h j s) (hm : Cell4 (mdl X t).m e h j m) :
    Cell5 (mdl X t).p e h j (shapeCast S1x1x1x256x256 (truncf .bf16 (exp2 (subf (shapeCast S256x256 s shapeCasts_S1x1x1x256x256_S256x256)
      (broadcastTo S256x256 (newSafe s m) broadcasts_S1x256_S256x256))) bitsLt_bf16_f32) shapeCasts_S256x256_S1x1x1x256x256
      : FVec Ideal S1x1x1x256x256 .bf16) := by
  apply Cell5.of
  intro i q
  have := newSafe_apply hs hm q
  generalize newSafe s m = w at *
  pointwise
  rw [this, hs.at]
  rfl

/-- The rescaling stored: never the first one. -/
theorem a_step {s : FVec Ideal S1x1x1x256x256 .f32} {m : FVec Ideal S1x1x1x256 .f32}
    (hs : Cell5 (mdl X t).s e h (j + 1) s) (hm : Cell4 (mdl X t).m e h (j + 1) m) :
    Cell5 (mdl X t).a e h (j + 1) (shapeCast S1x1x1x1x256 (exp2 (subf (shapeCast S1x256 m shapeCasts_S1x1x1x256_S1x256) (newSafe s m)))
      shapeCasts_S1x256_S1x1x1x1x256) := by
  apply Cell5.of
  intro z q
  have := newSafe_apply hs hm q
  generalize newSafe s m = w at *
  obtain rfl : z = 0 := Subsingleton.elim _ _
  pointwise
  rw [this, hm.at 0 q]
  show _ = mA X t e h (j + 1) q.val
  unfold mA
  rw [if_neg (Nat.succ_ne_zero j)]
  rfl

/-- The accumulator stored. -/
theorem c_step {acc : FVec Ideal S1x1x80x256 .f32} {al : FVec Ideal S1x1x1x1x256 .f32} {p : FVec Ideal S1x1x1x256x256 .bf16}
    {v0 v1 : FVec Ideal S1x1x80x128 .bf16} (hc : Cell4 (mdl X t).acc e h j acc) (ha : Cell5 (mdl X t).a e h j al)
    (hp : Cell5 (mdl X t).p e h j p) (h0 : VCell X e (2 * (j - 2) + 0) v0) (h1 : VCell X e (2 * (j - 2) + 1) v1) :
    Cell4 (mdl X t).acc e h (j + 1) (shapeCast S1x1x80x256
      (addf (mulf (shapeCast S80x256 acc shapeCasts_S1x1x80x256_S80x256)
        (broadcastTo S80x256 (shapeCast S1x256 al shapeCasts_S1x1x1x1x256_S1x256) broadcasts_S1x256_S80x256))
      (matmul dot_S80x256_S256x256_S80x256_1_0_0_1_n_n none
        (concatenate S80x256 1 [⟨S80x128, (shapeCast S80x128 v0 shapeCasts_S1x1x80x128_S80x128 : FVec Ideal S80x128 .bf16)⟩,
          ⟨S80x128, shapeCast S80x128 v1 shapeCasts_S1x1x80x128_S80x128⟩] concatenates_S80x128_S80x128_S80x256_d1 : FVec Ideal S80x256 .bf16)
        (shapeCast S256x256 p shapeCasts_S1x1x1x256x256_S256x256 : FVec Ideal S256x256 .bf16) (constant S80x256 .f32 0x00000000#32)))
      shapeCasts_S80x256_S1x1x80x256) := by
  apply Cell4.of
  intro d q
  pointwise
  rw [hc.at, ha.at 0 q]
  simp only [hp.at]
  have h0' := h0 d
  have h1' := h1 d
  simp only [h0', h1']
  rfl

/-- A cell of logits, from its entries. -/
theorem s_cell {jt : ℕ} {w : FVec Ideal S256x256 .f32}
    (hw : ∀ a b : Fin 256, w (Idealize.ShloMosaic.ix2 a b) = mS X t e h (jt + 2) a.val b.val) :
    Cell5 (mdl X t).s e h (jt + 2) (shapeCast S1x1x1x256x256 w shapeCasts_S256x256_S1x1x1x256x256) := by
  apply Cell5.of
  intro a b
  pointwise
  exact hw a b

/-- Below the diagonal a tile of scores is the products themselves. -/
theorem mS_below {jt : ℕ} (hj : jt < 4 * t + h) (a b : Fin 256) :
    mS X t e h (jt + 2) a.val b.val = dotKQ X e (256 * jt + a.val) (1024 * t + (256 * h + b.val)) := by
  unfold mS
  rw [if_neg (by omega), Nat.add_sub_cancel, if_pos (by omega)]

/-- On the diagonal a tile of scores is masked. -/
theorem mS_diag {jt : ℕ} (hj : jt = 4 * t + h) (a b : Fin 256) :
    mS X t e h (jt + 2) a.val b.val = if a.val ≤ b.val then dotKQ X e (256 * jt + a.val) (1024 * t + (256 * h + b.val)) else ⊥ := by
  subst hj
  unfold mS
  rw [if_neg (by omega), Nat.add_sub_cancel]
  by_cases hab : a.val ≤ b.val
  · rw [if_pos hab, if_pos (by omega)]
  · rw [if_neg hab, if_neg (by omega)]

/-- The causal mask of a tile on the diagonal. -/
theorem mask_select (a b : Fin 256) (x y : EReal) :
    Scalar.select (IntOp.cmpi .sle (BitVec.ofNat 32 a.val) (BitVec.ofNat 32 b.val)) x y = if a.val ≤ b.val then x else y := by
  have := WordCmp.cmpi_sle_ofNat_eq_one_iff (w := 32) (a := a.val) (b := b.val) (by have := a.isLt; norm_num; omega) (by have := b.isLt; norm_num; omega)
  by_cases h : a.val ≤ b.val
  · rw [if_pos h, this.mpr h]; rfl
  · rw [if_neg h]; exact if_neg fun h' => h (this.mp h')

/-- The mask the body computes once. -/
abbrev mask : IVec S256x256 1 :=
  cmpi .sle (iota .tc S256x256 32 [0] iota_S256x256_d0_w32) (iota .tc S256x256 32 [1] iota_S256x256_d1_w32)

/-- The tile's logits on the diagonal chunk, masked. -/
abbrev masked (w : FVec Ideal S256x256 .f32) : FVec Ideal S256x256 .f32 :=
  select mask w (broadcast S256x256 (Scalar.ofBits .f32 0xFF800000#32 : Ideal .f32))

/-- A cell of logits below the diagonal. -/
theorem s_below {jt : ℕ} {w : FVec Ideal S256x256 .f32}
    (hw : ∀ a b : Fin 256, w (Idealize.ShloMosaic.ix2 a b) = dotKQ X e (256 * jt + a.val) (1024 * t + (256 * h + b.val)))
    (hj : jt < 4 * t + h) :
    Cell5 (mdl X t).s e h (jt + 2) (shapeCast S1x1x1x256x256 w shapeCasts_S256x256_S1x1x1x256x256) :=
  s_cell fun a b => (hw a b).trans (mS_below hj a b).symm

/-- A cell of logits on the diagonal. -/
theorem s_diag {jt : ℕ} {w : FVec Ideal S256x256 .f32}
    (hw : ∀ a b : Fin 256, w (Idealize.ShloMosaic.ix2 a b) = dotKQ X e (256 * jt + a.val) (1024 * t + (256 * h + b.val)))
    (hj : jt = 4 * t + h) :
    Cell5 (mdl X t).s e h (jt + 2) (shapeCast S1x1x1x256x256 (masked w) shapeCasts_S256x256_S1x1x1x256x256) := by
  refine s_cell fun a b => ?_
  rw [mS_diag hj, ← hw a b]
  pointwise
  rw [mask_select, show Ideal.ofBits .f32 0xFF800000#32 = ⊥ from neg_inf]

section Tiles
variable {jt : ℕ} {k : FVec Ideal S1x256x128 .bf16} {q : FVec Ideal S1x1024x128 .bf16}

/-- The keys of a tile against every query of the block. -/
abbrev tile4 (k : FVec Ideal S1x256x128 .bf16) (q : FVec Ideal S1x1024x128 .bf16) : FVec Ideal S256x1024 .f32 :=
  matmul dot_S256x128_S1024x128_S256x1024_1_1_0_0_n_n none (shapeCast S256x128 k shapeCasts_S1x256x128_S256x128 : FVec Ideal S256x128 .bf16)
    (shapeCast S1024x128 q shapeCasts_S1x1024x128_S1024x128 : FVec Ideal S1024x128 .bf16) (constant S256x1024 .f32 0x00000000#32)

/-- The keys of a tile against the queries of the last three chunks. -/
abbrev tile3 (k : FVec Ideal S1x256x128 .bf16) (q : FVec Ideal S1x1024x128 .bf16) : FVec Ideal S256x768 .f32 :=
  matmul dot_S256x128_S768x128_S256x768_1_1_0_0_n_n none (shapeCast S256x128 k shapeCasts_S1x256x128_S256x128 : FVec Ideal S256x128 .bf16)
    (extractStridedSlice S768x128 ![256, 0] (shapeCast S1024x128 q shapeCasts_S1x1024x128_S1024x128 : FVec Ideal S1024x128 .bf16)
      slices_S1024x128_o256_0_S768x128) (constant S256x768 .f32 0x00000000#32)

/-- The keys of a tile against the queries of the last two chunks. -/
abbrev tile2 (k : FVec Ideal S1x256x128 .bf16) (q : FVec Ideal S1x1024x128 .bf16) : FVec Ideal S256x512 .f32 :=
  matmul dot_S256x128_S512x128_S256x512_1_1_0_0_n_n none (shapeCast S256x128 k shapeCasts_S1x256x128_S256x128 : FVec Ideal S256x128 .bf16)
    (extractStridedSlice S512x128 ![512, 0] (shapeCast S1024x128 q shapeCasts_S1x1024x128_S1024x128 : FVec Ideal S1024x128 .bf16)
      slices_S1024x128_o512_0_S512x128) (constant S256x512 .f32 0x00000000#32)

/-- The keys of a tile against the queries of the last chunk. -/
abbrev tile1 (k : FVec Ideal S1x256x128 .bf16) (q : FVec Ideal S1x1024x128 .bf16) : FVec Ideal S256x256 .f32 :=
  matmul dot_S256x128_S256x128_S256x256_1_1_0_0_n_n none (shapeCast S256x128 k shapeCasts_S1x256x128_S256x128 : FVec Ideal S256x128 .bf16)
    (extractStridedSlice S256x128 ![768, 0] (shapeCast S1024x128 q shapeCasts_S1x1024x128_S1024x128 : FVec Ideal S1024x128 .bf16)
      slices_S1024x128_o768_0_S256x128) (constant S256x256 .f32 0x00000000#32)

/-- A sum of products of loaded keys and queries. -/
theorem dot_cells (hk : KCell X e jt k) (hq : QCell X t e q) (a b : Fin 256) (a' : Fin 256) (b' : Fin 1024) (ha : a'.val = a.val)
    (hb : b'.val = 256 * h + b.val) :
    (∑ x : Fin 128, k (Idealize.ShloMosaic.ix3 0 a' x) * q (Idealize.ShloMosaic.ix3 0 b' x))
      = dotKQ X e (256 * jt + a.val) (1024 * t + (256 * h + b.val)) := by
  unfold dotKQ
  refine Finset.sum_congr rfl fun x _ => ?_
  rw [hk, hq, ha, hb]

/-- The scores of one of four blocks of queries, cut out of the product with all of them. -/
theorem tile4_apply (hk : KCell X e jt k) (hq : QCell X t e q) {o : Fin 2 → ℕ} (ho : S256x1024.Slices o S256x256) (ho' : o = ![0, 256 * h]) (a b : Fin 256) :
    extractStridedSlice S256x256 o (tile4 k q) ho (Idealize.ShloMosaic.ix2 a b) = dotKQ X e (256 * jt + a.val) (1024 * t + (256 * h + b.val)) := by
  subst ho'
  pointwise
  refine dot_cells hk hq a b _ _ ?_ ?_ <;> simp

/-- The scores of one of three blocks of queries, cut out of the product with the three. -/
theorem tile3_apply (hk : KCell X e jt k) (hq : QCell X t e q) {o : Fin 2 → ℕ} (ho : S256x768.Slices o S256x256) {o1 : ℕ} (ho' : o = ![0, o1]) (hh : 256 + o1 = 256 * h) (a b : Fin 256) :
    extractStridedSlice S256x256 o (tile3 k q) ho (Idealize.ShloMosaic.ix2 a b) = dotKQ X e (256 * jt + a.val) (1024 * t + (256 * h + b.val)) := by
  subst ho'
  pointwise
  refine dot_cells hk hq a b _ _ ?_ ?_ <;> simp <;> omega

/-- The scores of one of two blocks of queries, cut out of the product with the two. -/
theorem tile2_apply (hk : KCell X e jt k) (hq : QCell X t e q) {o : Fin 2 → ℕ} (ho : S256x512.Slices o S256x256) {o1 : ℕ} (ho' : o = ![0, o1]) (hh : 512 + o1 = 256 * h) (a b : Fin 256) :
    extractStridedSlice S256x256 o (tile2 k q) ho (Idealize.ShloMosaic.ix2 a b) = dotKQ X e (256 * jt + a.val) (1024 * t + (256 * h + b.val)) := by
  subst ho'
  pointwise
  refine dot_cells hk hq a b _ _ ?_ ?_ <;> simp <;> omega

/-- The scores of the last block of queries alone. -/
theorem tile1_apply (hk : KCell X e jt k) (hq : QCell X t e q) (hh : 3 = h) (a b : Fin 256) :
    tile1 k q (Idealize.ShloMosaic.ix2 a b) = dotKQ X e (256 * jt + a.val) (1024 * t + (256 * h + b.val)) := by
  subst hh
  pointwise
  exact dot_cells (h := 3) hk hq a b _ _ rfl rfl

end Tiles

/-- A row of the result: the accumulated rows divided by the accumulated weight, head by head. -/
abbrev outTile (x y : FVec Ideal S1x1x80x256 .f32) : FVec Ideal S1x256x128 .bf16 :=
  shapeCast S1x256x128 (truncf .bf16 (transpose S256x128 [1, 0] (concatenate S128x256 0
    [⟨S64x256, divf (extractStridedSlice S64x256 ![0, 0] (shapeCast S80x256 x shapeCasts_S1x1x80x256_S80x256) slices_S80x256_o0_0_S64x256)
      (broadcastTo S64x256 (extractStridedSlice S1x256 ![64, 0] (shapeCast S80x256 x shapeCasts_S1x1x80x256_S80x256) slices_S80x256_o64_0_S1x256) broadcasts_S1x256_S64x256)⟩,
     ⟨S64x256, divf (extractStridedSlice S64x256 ![0, 0] (shapeCast S80x256 y shapeCasts_S1x1x80x256_S80x256) slices_S80x256_o0_0_S64x256)
      (broadcastTo S64x256 (extractStridedSlice S1x256 ![64, 0] (shapeCast S80x256 y shapeCasts_S1x1x80x256_S80x256) slices_S80x256_o64_0_S1x256) broadcasts_S1x256_S64x256)⟩]
    concatenates_S64x256_S64x256_S128x256_d0) transposes_S128x256_p1_0_S256x128) bitsLt_bf16_f32 : FVec Ideal S256x128 .bf16) shapeCasts_S256x128_S1x256x128

/-- The result of head `e`, query `q` of chunk `h` and lane `d`, from the accumulator at step `n`. -/
def mO (X : Ins) (t e h n d q : ℕ) : EReal := Ideal.div (mC X t e h n d q) (mC X t e h n 64 q)

/-- What is written out for one block of queries: of each of the two heads its sums divided by its total weight. -/
theorem out_step {x y : FVec Ideal S1x1x80x256 .f32} (hx : Cell4 (mdl X t).acc 0 h j x) (hy : Cell4 (mdl X t).acc 1 h j y) (q : Fin 256) (l : Fin 128) :
    outTile x y (Idealize.ShloMosaic.ix3 0 q l) = mO X t (l.val / 64) h j (l.val % 64) q.val := by
  unfold mO
  by_cases hl : l.val < 64
  · rw [Nat.div_eq_of_lt hl, Nat.mod_eq_of_lt hl]
    pointwise
    rw [dif_pos hl, hx.at, hx.at]
    rfl
  · rw [show l.val / 64 = 1 by omega, show l.val % 64 = l.val - 64 by omega]
    pointwise
    rw [dif_neg hl, hy.at, hy.at]
    rfl

end Cert.Proof.Mla

end
-- ==== Proof.MlaRules.lean ====
module

public import proofs.«01_k».proof.Proof.MlaModel

/-! The rules for the body's loads and stores, in terms of the tables. -/

@[expose] public section

set_option maxRecDepth 16384

noncomputable section

namespace Cert.Proof.Mla

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {c : Dev nD} {B : Bufs} {X : Ins} {M : Mdl} {O : (S1x4096x128.Idx → EReal) → Prop} {ts tp ta : Tab3} {tm tc : Tab2}

/-! ## Loads of cells whose step is known -/

/-- A load of a cell of the scores whose contents the table tells. -/
theorem load_s {s e h j : ℕ} {inb : ∀ i, (![s, e, h, 0, 0] : Fin 5 → ℕ) i + S1x1x1x256x256.size i ≤ S2x2x4x256x256.size i}
    {hl : B.s.view.LoadsAt (Rect.unit (s := S2x2x4x256x256) ![s, e, h, 0, 0] S1x1x1x256x256.size inb).toLoadRect}
    {Q : (S1x1x1x256x256.Idx → EReal) → sProp 𝕄} (hT : ts s e h = some j)
    (hk : ∀ x, Cell5 M.s e h j (a := 256) (b := 256) x → St c B X M O ts tp ta tm tc ⊢ Q x) :
    St c B X M O ts tp ta tm tc ⊢ WP c (Prog.lift (.load B.s (Rect.unit (s := S2x2x4x256x256) ![s, e, h, 0, 0] S1x1x1x256x256.size inb).toLoadRect hl)
      : Prog (TpuEff nD τ sig (Elt Ideal) Λ₀ .tc) _) Q :=
  loadR (lend_s ts) fun _ hY => hk _ (hY.load hT)

/-- A load of a cell of the weights whose contents the table tells. -/
theorem load_p {s e h j : ℕ} {inb : ∀ i, (![s, e, h, 0, 0] : Fin 5 → ℕ) i + S1x1x1x256x256.size i ≤ S2x2x4x256x256.size i}
    {hl : B.p.view.LoadsAt (Rect.unit (s := S2x2x4x256x256) ![s, e, h, 0, 0] S1x1x1x256x256.size inb).toLoadRect}
    {Q : (S1x1x1x256x256.Idx → EReal) → sProp 𝕄} (hT : tp s e h = some j)
    (hk : ∀ x, Cell5 M.p e h j (a := 256) (b := 256) x → St c B X M O ts tp ta tm tc ⊢ Q x) :
    St c B X M O ts tp ta tm tc ⊢ WP c (Prog.lift (.load B.p (Rect.unit (s := S2x2x4x256x256) ![s, e, h, 0, 0] S1x1x1x256x256.size inb).toLoadRect hl)
      : Prog (TpuEff nD τ sig (Elt Ideal) Λ₀ .tc) _) Q :=
  loadR (lend_p tp) fun _ hY => hk _ (hY.load hT)

/-- A load of a cell of the rescaling factors whose contents the table tells. -/
theorem load_a {s e h j : ℕ} {inb : ∀ i, (![s, e, h, 0, 0] : Fin 5 → ℕ) i + S1x1x1x1x256.size i ≤ S2x2x4x1x256.size i}
    {hl : B.a.view.LoadsAt (Rect.unit (s := S2x2x4x1x256) ![s, e, h, 0, 0] S1x1x1x1x256.size inb).toLoadRect}
    {Q : (S1x1x1x1x256.Idx → EReal) → sProp 𝕄} (hT : ta s e h = some j)
    (hk : ∀ x, Cell5 M.a e h j (a := 1) (b := 256) x → St c B X M O ts tp ta tm tc ⊢ Q x) :
    St c B X M O ts tp ta tm tc ⊢ WP c (Prog.lift (.load B.a (Rect.unit (s := S2x2x4x1x256) ![s, e, h, 0, 0] S1x1x1x1x256.size inb).toLoadRect hl)
      : Prog (TpuEff nD τ sig (Elt Ideal) Λ₀ .tc) _) Q :=
  loadR (lend_a ta) fun _ hY => hk _ (hY.load hT)

/-- A load of a cell of the running maxima whose contents the table tells. -/
theorem load_m {e h j : ℕ} {inb : ∀ i, (![e, h, 0, 0] : Fin 4 → ℕ) i + S1x1x1x256.size i ≤ S2x4x1x256.size i}
    {hl : B.m.view.LoadsAt (Rect.unit (s := S2x4x1x256) ![e, h, 0, 0] S1x1x1x256.size inb).toLoadRect}
    {Q : (S1x1x1x256.Idx → EReal) → sProp 𝕄} (hT : tm e h = some j)
    (hk : ∀ x, Cell4 M.m e h j (a := 1) (b := 256) x → St c B X M O ts tp ta tm tc ⊢ Q x) :
    St c B X M O ts tp ta tm tc ⊢ WP c (Prog.lift (.load B.m (Rect.unit (s := S2x4x1x256) ![e, h, 0, 0] S1x1x1x256.size inb).toLoadRect hl)
      : Prog (TpuEff nD τ sig (Elt Ideal) Λ₀ .tc) _) Q :=
  loadR (lend_m tm) fun _ hY => hk _ (hY.load hT)

/-- A load of a cell of the sums whose contents the table tells. -/
theorem load_acc {e h j : ℕ} {inb : ∀ i, (![e, h, 0, 0] : Fin 4 → ℕ) i + S1x1x80x256.size i ≤ S2x4x80x256.size i}
    {hl : B.acc.view.LoadsAt (Rect.unit (s := S2x4x80x256) ![e, h, 0, 0] S1x1x80x256.size inb).toLoadRect}
    {Q : (S1x1x80x256.Idx → EReal) → sProp 𝕄} (hT : tc e h = some j)
    (hk : ∀ x, Cell4 M.acc e h j (a := 80) (b := 256) x → St c B X M O ts tp ta tm tc ⊢ Q x) :
    St c B X M O ts tp ta tm tc ⊢ WP c (Prog.lift (.load B.acc (Rect.unit (s := S2x4x80x256) ![e, h, 0, 0] S1x1x80x256.size inb).toLoadRect hl)
      : Prog (TpuEff nD τ sig (Elt Ideal) Λ₀ .tc) _) Q :=
  loadR (lend_acc tc) fun _ hY => hk _ (hY.load hT)

/-! ## Loads of the staged inputs -/

/-- A load of a block of the queries. -/
theorem load_q {t e : ℕ} {off : Fin 3 → ℕ} {inb : ∀ i, off i + S1x1024x128.size i ≤ S1x4096x256.size i}
    {hl : B.q.view.LoadsAt (Rect.unit (s := S1x4096x256) off S1x1024x128.size inb).toLoadRect}
    {Q : (S1x1024x128.Idx → EReal) → sProp 𝕄} (ho : off = ![0, 1024 * t, 128 * e])
    (hk : ∀ x, QCell X t e x → St c B X M O ts tp ta tm tc ⊢ Q x) :
    St c B X M O ts tp ta tm tc ⊢ WP c (Prog.lift (.load B.q (Rect.unit (s := S1x4096x256) off S1x1024x128.size inb).toLoadRect hl)
      : Prog (TpuEff nD τ sig (Elt Ideal) Λ₀ .tc) _) Q :=
  loadR lend_q fun Y hY => hk _ (by
    subst hY ho
    intro a b
    have i1 : 1024 * t + 1024 ≤ 4096 := inb 1
    have i2 : 128 * e + 128 ≤ 256 := inb 2
    unfold rd3
    rw [dif_pos ⟨by have := a.isLt; omega, by have := b.isLt; omega⟩]
    refine congrArg X.q (funext fun i => ?_)
    apply Fin.ext
    rw [LoadRect.idx_apply]
    fin_cases i
    · rfl
    · show 1024 * t + 1 * a.val = _; simp
    · show 128 * e + 1 * b.val = _; simp)

/-- A load of a block of the keys. -/
theorem load_k {jt e : ℕ} {off : Fin 3 → ℕ} {inb : ∀ i, off i + S1x256x128.size i ≤ S1x4096x256.size i}
    {hl : B.k.view.LoadsAt (Rect.unit (s := S1x4096x256) off S1x256x128.size inb).toLoadRect}
    {Q : (S1x256x128.Idx → EReal) → sProp 𝕄} (ho : off = ![0, 256 * jt, 128 * e])
    (hk : ∀ x, KCell X e jt x → St c B X M O ts tp ta tm tc ⊢ Q x) :
    St c B X M O ts tp ta tm tc ⊢ WP c (Prog.lift (.load B.k (Rect.unit (s := S1x4096x256) off S1x256x128.size inb).toLoadRect hl)
      : Prog (TpuEff nD τ sig (Elt Ideal) Λ₀ .tc) _) Q :=
  loadR lend_k fun Y hY => hk _ (by
    subst hY ho
    intro a b
    have i1 : 256 * jt + 256 ≤ 4096 := inb 1
    have i2 : 128 * e + 128 ≤ 256 := inb 2
    unfold rd3
    rw [dif_pos ⟨by have := a.isLt; omega, by have := b.isLt; omega⟩]
    refine congrArg X.k (funext fun i => ?_)
    apply Fin.ext
    rw [LoadRect.idx_apply]
    fin_cases i
    · rfl
    · show 256 * jt + 1 * a.val = _; simp
    · show 128 * e + 1 * b.val = _; simp)

/-- A load of a block of the values. -/
theorem load_v {b e : ℕ} {off : Fin 4 → ℕ} {inb : ∀ i, off i + S1x1x80x128.size i ≤ S1x32x160x128.size i}
    {hl : B.v.view.LoadsAt (Rect.unit (s := S1x32x160x128) off S1x1x80x128.size inb).toLoadRect}
    {Q : (S1x1x80x128.Idx → EReal) → sProp 𝕄} (ho : off = ![0, b, 80 * e, 0])
    (hk : ∀ x, VCell X e b x → St c B X M O ts tp ta tm tc ⊢ Q x) :
    St c B X M O ts tp ta tm tc ⊢ WP c (Prog.lift (.load B.v (Rect.unit (s := S1x32x160x128) off S1x1x80x128.size inb).toLoadRect hl)
      : Prog (TpuEff nD τ sig (Elt Ideal) Λ₀ .tc) _) Q :=
  loadR lend_v fun Y hY => hk _ (by
    subst hY ho
    intro d l
    have i1 : b + 1 ≤ 32 := inb 1
    have i2 : 80 * e + 80 ≤ 160 := inb 2
    unfold rd4
    rw [dif_pos ⟨by omega, by have := d.isLt; omega, l.isLt⟩]
    refine congrArg X.v (funext fun i => ?_)
    apply Fin.ext
    rw [LoadRect.idx_apply]
    fin_cases i
    · rfl
    · show b + 1 * 0 = _; simp
    · show 80 * e + 1 * d.val = _; simp
    · show 0 + 1 * l.val = _; simp)

/-! ## Loads whose value is not used -/

/-- A load of the scores whose value is not used. -/
theorem skip_s {r : LoadRect S2x2x4x256x256} {hl : B.s.view.LoadsAt r} {Q : (r.shape.Idx → EReal) → sProp 𝕄}
    (hk : ∀ x, St c B X M O ts tp ta tm tc ⊢ Q x) :
    St c B X M O ts tp ta tm tc ⊢ WP c (Prog.lift (.load B.s r hl) : Prog (TpuEff nD τ sig (Elt Ideal) Λ₀ .tc) _) Q :=
  loadR (lend_s ts) fun _ _ => hk _

/-- A load of the weights whose value is not used. -/
theorem skip_p {r : LoadRect S2x2x4x256x256} {hl : B.p.view.LoadsAt r} {Q : (r.shape.Idx → EReal) → sProp 𝕄}
    (hk : ∀ x, St c B X M O ts tp ta tm tc ⊢ Q x) :
    St c B X M O ts tp ta tm tc ⊢ WP c (Prog.lift (.load B.p r hl) : Prog (TpuEff nD τ sig (Elt Ideal) Λ₀ .tc) _) Q :=
  loadR (lend_p tp) fun _ _ => hk _

/-- A load of the rescaling factors whose value is not used. -/
theorem skip_a {r : LoadRect S2x2x4x1x256} {hl : B.a.view.LoadsAt r} {Q : (r.shape.Idx → EReal) → sProp 𝕄}
    (hk : ∀ x, St c B X M O ts tp ta tm tc ⊢ Q x) :
    St c B X M O ts tp ta tm tc ⊢ WP c (Prog.lift (.load B.a r hl) : Prog (TpuEff nD τ sig (Elt Ideal) Λ₀ .tc) _) Q :=
  loadR (lend_a ta) fun _ _ => hk _

/-- A load of the running maxima whose value is not used. -/
theorem skip_m {r : LoadRect S2x4x1x256} {hl : B.m.view.LoadsAt r} {Q : (r.shape.Idx → EReal) → sProp 𝕄}
    (hk : ∀ x, St c B X M O ts tp ta tm tc ⊢ Q x) :
    St c B X M O ts tp ta tm tc ⊢ WP c (Prog.lift (.load B.m r hl) : Prog (TpuEff nD τ sig (Elt Ideal) Λ₀ .tc) _) Q :=
  loadR (lend_m tm) fun _ _ => hk _

/-- A load of the sums whose value is not used. -/
theorem skip_acc {r : LoadRect S2x4x80x256} {hl : B.acc.view.LoadsAt r} {Q : (r.shape.Idx → EReal) → sProp 𝕄}
    (hk : ∀ x, St c B X M O ts tp ta tm tc ⊢ Q x) :
    St c B X M O ts tp ta tm tc ⊢ WP c (Prog.lift (.load B.acc r hl) : Prog (TpuEff nD τ sig (Elt Ideal) Λ₀ .tc) _) Q :=
  loadR (lend_acc tc) fun _ _ => hk _

/-- A load of the output block whose value is not used. -/
theorem skip_o {r : LoadRect S1x4096x128} {hl : B.o.view.LoadsAt r} {Q : (r.shape.Idx → EReal) → sProp 𝕄}
    (hk : ∀ x, St c B X M O ts tp ta tm tc ⊢ Q x) :
    St c B X M O ts tp ta tm tc ⊢ WP c (Prog.lift (.load B.o r hl) : Prog (TpuEff nD τ sig (Elt Ideal) Λ₀ .tc) _) Q :=
  loadR (lend_o O) fun _ _ => hk _

/-! ## Stores of cells -/

/-- A store of a cell of the scores moves the table there to the stored step. -/
theorem store_s {s e h j : ℕ} {inb : ∀ i, (![s, e, h, 0, 0] : Fin 5 → ℕ) i + S1x1x1x256x256.size i ≤ S2x2x4x256x256.size i}
    {w : S1x1x1x256x256.Idx → EReal} {hx} {hu} {Q : PUnit → sProp 𝕄}
    (hw : Cell5 M.s e h j (a := 256) (b := 256) w)
    (hk : St c B X M O (put3 ts s e h j) tp ta tm tc ⊢ Q ⟨⟩) :
    St c B X M O ts tp ta tm tc ⊢ WP c (Prog.lift (.store B.s (Rect.unit (s := S2x2x4x256x256) ![s, e, h, 0, 0] S1x1x1x256x256.size inb) w Finset.univ hx hu)
      : Prog (TpuEff nD τ sig (Elt Ideal) Λ₀ .tc) _) Q :=
  storeR (lend_s _) (fun _ _ hX h1 h2 => hX.store hw h1 h2) hk

/-- A store of a cell of the weights moves the table there to the stored step. -/
theorem store_p {s e h j : ℕ} {inb : ∀ i, (![s, e, h, 0, 0] : Fin 5 → ℕ) i + S1x1x1x256x256.size i ≤ S2x2x4x256x256.size i}
    {w : S1x1x1x256x256.Idx → EReal} {hx} {hu} {Q : PUnit → sProp 𝕄}
    (hw : Cell5 M.p e h j (a := 256) (b := 256) w)
    (hk : St c B X M O ts (put3 tp s e h j) ta tm tc ⊢ Q ⟨⟩) :
    St c B X M O ts tp ta tm tc ⊢ WP c (Prog.lift (.store B.p (Rect.unit (s := S2x2x4x256x256) ![s, e, h, 0, 0] S1x1x1x256x256.size inb) w Finset.univ hx hu)
      : Prog (TpuEff nD τ sig (Elt Ideal) Λ₀ .tc) _) Q :=
  storeR (lend_p _) (fun _ _ hX h1 h2 => hX.store hw h1 h2) hk

/-- A store of a cell of the rescaling factors moves the table there to the stored step. -/
theorem store_a {s e h j : ℕ} {inb : ∀ i, (![s, e, h, 0, 0] : Fin 5 → ℕ) i + S1x1x1x1x256.size i ≤ S2x2x4x1x256.size i}
    {w : S1x1x1x1x256.Idx → EReal} {hx} {hu} {Q : PUnit → sProp 𝕄}
    (hw : Cell5 M.a e h j (a := 1) (b := 256) w)
    (hk : St c B X M O ts tp (put3 ta s e h j) tm tc ⊢ Q ⟨⟩) :
    St c B X M O ts tp ta tm tc ⊢ WP c (Prog.lift (.store B.a (Rect.unit (s := S2x2x4x1x256) ![s, e, h, 0, 0] S1x1x1x1x256.size inb) w Finset.univ hx hu)
      : Prog (TpuEff nD τ sig (Elt Ideal) Λ₀ .tc) _) Q :=
  storeR (lend_a _) (fun _ _ hX h1 h2 => hX.store hw h1 h2) hk

/-- A store of a cell of the running maxima moves the table there to the stored step. -/
theorem store_m {e h j : ℕ} {inb : ∀ i, (![e, h, 0, 0] : Fin 4 → ℕ) i + S1x1x1x256.size i ≤ S2x4x1x256.size i}
    {w : S1x1x1x256.Idx → EReal} {hx} {hu} {Q : PUnit → sProp 𝕄}
    (hw : Cell4 M.m e h j (a := 1) (b := 256) w)
    (hk : St c B X M O ts tp ta (put2 tm e h j) tc ⊢ Q ⟨⟩) :
    St c B X M O ts tp ta tm tc ⊢ WP c (Prog.lift (.store B.m (Rect.unit (s := S2x4x1x256) ![e, h, 0, 0] S1x1x1x256.size inb) w Finset.univ hx hu)
      : Prog (TpuEff nD τ sig (Elt Ideal) Λ₀ .tc) _) Q :=
  storeR (lend_m _) (fun _ _ hX h1 h2 => hX.store hw h1 h2) hk

/-- A store of a cell of the sums moves the table there to the stored step. -/
theorem store_acc {e h j : ℕ} {inb : ∀ i, (![e, h, 0, 0] : Fin 4 → ℕ) i + S1x1x80x256.size i ≤ S2x4x80x256.size i}
    {w : S1x1x80x256.Idx → EReal} {hx} {hu} {Q : PUnit → sProp 𝕄}
    (hw : Cell4 M.acc e h j (a := 80) (b := 256) w)
    (hk : St c B X M O ts tp ta tm (put2 tc e h j) ⊢ Q ⟨⟩) :
    St c B X M O ts tp ta tm tc ⊢ WP c (Prog.lift (.store B.acc (Rect.unit (s := S2x4x80x256) ![e, h, 0, 0] S1x1x80x256.size inb) w Finset.univ hx hu)
      : Prog (TpuEff nD τ sig (Elt Ideal) Λ₀ .tc) _) Q :=
  storeR (lend_acc _) (fun _ _ hX h1 h2 => hX.store hw h1 h2) hk

/-! ## Offsets in closed form -/

/-- Where the keys of the first head that a trip loads lie. -/
theorem off5 (t1 : Fin k0_t1_loop.trips) (t2 : Fin (k0_t2_loop t1).trips) (r : ℕ) (hr : r < 4) :
    k0_off5 t1 t2 (BitVec.ofNat 32 r) = ![0, 256 * (4 * t2.val + r), 128 * 0] := by
  rw [k0_off5_eq t1 t2 ⟨r, hr⟩]; congr 2; show 1024 * t2.val + 256 * r = _; omega

/-- Where the keys of the second head that a trip loads lie. -/
theorem off6 (t1 : Fin k0_t1_loop.trips) (t2 : Fin (k0_t2_loop t1).trips) (r : ℕ) (hr : r < 4) :
    k0_off6 t1 t2 (BitVec.ofNat 32 r) = ![0, 256 * (4 * t2.val + r), 128 * 1] := by
  rw [k0_off6_eq t1 t2 ⟨r, hr⟩]; congr 2; show 1024 * t2.val + 256 * r = _; omega

/-- Where the keys of the first head loaded after the loop lie. -/
theorem off13 (t1 : Fin k0_t1_loop.trips) (r : ℕ) (hr : r < 4) :
    k0_off13 t1 (BitVec.ofNat 32 r) = ![0, 256 * (4 * t1.val + r), 128 * 0] := by
  rw [k0_off13_eq t1 ⟨r, hr⟩]; congr 2; show 1024 * t1.val + 256 * r = _; omega

/-- Where the keys of the second head loaded after the loop lie. -/
theorem off14 (t1 : Fin k0_t1_loop.trips) (r : ℕ) (hr : r < 4) :
    k0_off14 t1 (BitVec.ofNat 32 r) = ![0, 256 * (4 * t1.val + r), 128 * 1] := by
  rw [k0_off14_eq t1 ⟨r, hr⟩]; congr 2; show 1024 * t1.val + 256 * r = _; omega

/-- Where the values of the first head that a trip loads lie, in closed form. -/
theorem off3' : ∀ (t1 : Fin k0_t1_loop.trips) (t2 : Fin (k0_t2_loop t1).trips) (r : Fin 4) (b : Fin 2),
    k0_off3 t1 t2 (BitVec.ofNat 32 r.val) (BitVec.ofNat 32 b.val) = ![0, 2 * (4 * t2.val + r.val - 2) + b.val, 80 * 0, 0] := by decide +kernel

/-- Where the values of the second head that a trip loads lie, in closed form. -/
theorem off4' : ∀ (t1 : Fin k0_t1_loop.trips) (t2 : Fin (k0_t2_loop t1).trips) (r : Fin 4) (b : Fin 2),
    k0_off4 t1 t2 (BitVec.ofNat 32 r.val) (BitVec.ofNat 32 b.val) = ![0, 2 * (4 * t2.val + r.val - 2) + b.val, 80 * 1, 0] := by decide +kernel

/-- Where the values of the first head loaded after the loop lie, in closed form. -/
theorem off11' : ∀ (t1 : Fin k0_t1_loop.trips) (r : Fin 6) (b : Fin 2),
    k0_off11 t1 (BitVec.ofNat 32 r.val) (BitVec.ofNat 32 b.val) = ![0, 2 * (4 * t1.val + r.val - 2) + b.val, 80 * 0, 0] := by decide +kernel

/-- Where the values of the second head loaded after the loop lie, in closed form. -/
theorem off12' : ∀ (t1 : Fin k0_t1_loop.trips) (r : Fin 6) (b : Fin 2),
    k0_off12 t1 (BitVec.ofNat 32 r.val) (BitVec.ofNat 32 b.val) = ![0, 2 * (4 * t1.val + r.val - 2) + b.val, 80 * 1, 0] := by decide +kernel

/-- Where the values of the first head that a trip loads lie. -/
theorem off3 (t1 : Fin k0_t1_loop.trips) (t2 : Fin (k0_t2_loop t1).trips) (r b : ℕ) (hr : r < 4) (hb : b < 2) :
    k0_off3 t1 t2 (BitVec.ofNat 32 r) (BitVec.ofNat 32 b) = ![0, 2 * (4 * t2.val + r - 2) + b, 80 * 0, 0] := off3' t1 t2 ⟨r, hr⟩ ⟨b, hb⟩

/-- Where the values of the second head that a trip loads lie. -/
theorem off4 (t1 : Fin k0_t1_loop.trips) (t2 : Fin (k0_t2_loop t1).trips) (r b : ℕ) (hr : r < 4) (hb : b < 2) :
    k0_off4 t1 t2 (BitVec.ofNat 32 r) (BitVec.ofNat 32 b) = ![0, 2 * (4 * t2.val + r - 2) + b, 80 * 1, 0] := off4' t1 t2 ⟨r, hr⟩ ⟨b, hb⟩

/-- Where the values of the first head loaded after the loop lie. -/
theorem off11 (t1 : Fin k0_t1_loop.trips) (r b : ℕ) (hr : r < 6) (hb : b < 2) :
    k0_off11 t1 (BitVec.ofNat 32 r) (BitVec.ofNat 32 b) = ![0, 2 * (4 * t1.val + r - 2) + b, 80 * 0, 0] := off11' t1 ⟨r, hr⟩ ⟨b, hb⟩

/-- Where the values of the second head loaded after the loop lie. -/
theorem off12 (t1 : Fin k0_t1_loop.trips) (r b : ℕ) (hr : r < 6) (hb : b < 2) :
    k0_off12 t1 (BitVec.ofNat 32 r) (BitVec.ofNat 32 b) = ![0, 2 * (4 * t1.val + r - 2) + b, 80 * 1, 0] := off12' t1 ⟨r, hr⟩ ⟨b, hb⟩

/-- Where the queries of the first head lie. -/
theorem off1 (t1 : Fin k0_t1_loop.trips) : k0_off1 t1 = ![0, 1024 * t1.val, 128 * 0] := k0_off1_eq t1

/-- Where the queries of the second head lie. -/
theorem off2 (t1 : Fin k0_t1_loop.trips) : k0_off2 t1 = ![0, 1024 * t1.val, 128 * 1] := k0_off2_eq t1

/-- The loop over blocks of keys has as many trips as there are earlier blocks of queries. -/
theorem trips2 : ∀ t1 : Fin k0_t1_loop.trips, (k0_t2_loop t1).trips = t1.val := by decide +kernel

/-- The loop over what is left has no trips. -/
theorem trips3 : ∀ t1 : Fin k0_t1_loop.trips, (k0_t3_loop t1).trips = 0 := by decide +kernel

/-! ## Tables of a whole slot -/

/-- Every cell of a slot at one step. -/
def slot (s j : ℕ) : Tab3 := fun s' _ _ => bif s' == s then some j else none

/-- The same, but one cell. -/
def hole3 (T : Tab3) (s e h : ℕ) : Tab3 := fun s' e' h' => bif (s' == s) && ((e' == e) && (h' == h)) then none else T s' e' h'

/-- The same, but one cell. -/
def hole2 (T : Tab2) (e h : ℕ) : Tab2 := fun e' h' => bif (e' == e) && (h' == h) then none else T e' h'

/-- Every cell at one step. -/
def full (j : ℕ) : Tab2 := fun _ _ => some j

end Cert.Proof.Mla

end
-- ==== Proof.MlaTrip.lean ====
module

public import proofs.«01_k».proof.Proof.MlaRules

/-! One trip of the loop over the key tiles that lie wholly below the diagonal: four steps of the pipeline. -/

@[expose] public section

set_option maxRecDepth 16384

noncomputable section

namespace Cert.Proof.Mla

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 0

attribute [local irreducible] Cell4 Cell5 KCell QCell VCell St WP k0_off3 k0_off4 k0_off5 k0_off6

/-- One trip of the loop over blocks of keys moves every buffer one trip ahead of the model. -/
theorem trip (c : Dev nD) (X : Ins) (O : (S1x4096x128.Idx → EReal) → Prop) (i : grid0.Coords)
    (arg2 : Memref sig .tc .vmem S1x4096x256 .bf16) (harg2 : arg2.IsWhole) (arg3 : Memref sig .tc .vmem S1x4096x256 .bf16) (harg3 : arg3.IsWhole)
    (arg4 : Memref sig .tc .vmem S1x32x160x128 .bf16) (harg4 : arg4.IsWhole) (arg5 : Memref sig .tc .vmem S1x4096x128 .bf16) (harg5 : arg5.IsWhole)
    (arg6 : Memref sig .tc .vmem S2x2x4x256x256 .f32) (harg6 : arg6.IsWhole) (arg7 : Memref sig .tc .vmem S2x2x4x256x256 .bf16) (harg7 : arg7.IsWhole)
    (arg8 : Memref sig .tc .vmem S2x2x4x1x256 .f32) (harg8 : arg8.IsWhole) (arg9 : Memref sig .tc .vmem S2x4x1x256 .f32) (harg9 : arg9.IsWhole)
    (arg10 : Memref sig .tc .vmem S2x4x80x256 .f32) (harg10 : arg10.IsWhole)
    (t1 : Fin k0_t1_loop.trips) (t2 : Fin (k0_t2_loop t1).trips) (q0 q1 : FVec Ideal S1x1024x128 .bf16)
    (hq0 : QCell X t1.val 0 q0) (hq1 : QCell X t1.val 1 q1) (b1 b2 : BitVec 32)
    (hlt : ∀ r h, r < 4 → 4 * t2.val + r < 4 * t1.val + h)
    (Q : (Σ' (_ : FVec Ideal S256x256 .f32), FVec Ideal S1x256 .f32) → sProp 𝕄)
    (hk : ∀ x m, Cell5 (mdl X t1.val).s 1 3 (4 * t2.val + 4) (a := 256) (b := 256) x → Cell4 (mdl X t1.val).m 1 3 (4 * t2.val + 4) (a := 1) (b := 256) m →
      St c ⟨arg2, arg3, arg4, arg5, arg6, arg7, arg8, arg9, arg10⟩ X (mdl X t1.val) O
        (slot 1 (4 * t2.val + 5)) (hole3 (slot 0 (4 * t2.val + 4)) 0 1 3) (hole3 (slot 0 (4 * t2.val + 4)) 0 1 3)
        (hole2 (full (4 * t2.val + 5)) 1 3) (full (4 * t2.val + 4)) ⊢
        Q ⟨shapeCast S256x256 x shapeCasts_S1x1x1x256x256_S256x256, shapeCast S1x256 m shapeCasts_S1x1x1x256_S1x256⟩) :
    St c ⟨arg2, arg3, arg4, arg5, arg6, arg7, arg8, arg9, arg10⟩ X (mdl X t1.val) O
      (slot 1 (4 * t2.val + 1)) (slot 0 (4 * t2.val)) (slot 0 (4 * t2.val)) (full (4 * t2.val + 1)) (full (4 * t2.val)) ⊢
    WP c (k0_part57 (F := Ideal) i arg2 harg2 arg3 harg3 arg4 harg4 arg5 harg5 arg6 harg6 arg7 harg7 arg8 harg8 arg9 harg9 arg10 harg10 t1
      (shapeCast S1024x128 q0 shapeCasts_S1x1024x128_S1024x128) (shapeCast S1024x128 q1 shapeCasts_S1x1024x128_S1024x128) b1 b2 t2) Q := by
  repeat' first
    | (with_reducible apply load_s); (exact rfl); intro x hx
    | (with_reducible apply load_p); (exact rfl); intro x hx
    | (with_reducible apply load_a); (exact rfl); intro x hx
    | (with_reducible apply load_m); (exact rfl); intro x hx
    | (with_reducible apply load_acc); (exact rfl); intro x hx
    | (with_reducible apply load_k); (first
        | with_reducible exact off5 _ _ 0 (by decide) | with_reducible exact off5 _ _ 1 (by decide) | with_reducible exact off5 _ _ 2 (by decide) | with_reducible exact off5 _ _ 3 (by decide)
        | with_reducible exact off6 _ _ 0 (by decide) | with_reducible exact off6 _ _ 1 (by decide) | with_reducible exact off6 _ _ 2 (by decide) | with_reducible exact off6 _ _ 3 (by decide)); intro x hx
    | (with_reducible apply load_v); (first
        | with_reducible exact off3 _ _ 0 0 (by decide) (by decide) | with_reducible exact off3 _ _ 1 0 (by decide) (by decide) | with_reducible exact off3 _ _ 2 0 (by decide) (by decide) | with_reducible exact off3 _ _ 3 0 (by decide) (by decide)
        | with_reducible exact off3 _ _ 0 1 (by decide) (by decide) | with_reducible exact off3 _ _ 1 1 (by decide) (by decide) | with_reducible exact off3 _ _ 2 1 (by decide) (by decide) | with_reducible exact off3 _ _ 3 1 (by decide) (by decide)
        | with_reducible exact off4 _ _ 0 0 (by decide) (by decide) | with_reducible exact off4 _ _ 1 0 (by decide) (by decide) | with_reducible exact off4 _ _ 2 0 (by decide) (by decide) | with_reducible exact off4 _ _ 3 0 (by decide) (by decide)
        | with_reducible exact off4 _ _ 0 1 (by decide) (by decide) | with_reducible exact off4 _ _ 1 1 (by decide) (by decide) | with_reducible exact off4 _ _ 2 1 (by decide) (by decide) | with_reducible exact off4 _ _ 3 1 (by decide) (by decide)); intro x hx
    | (with_reducible apply store_s); (exact s_below (tile4_apply (by assumption) (by assumption) _ rfl) (hlt _ _ (by decide)))
    | (with_reducible apply store_p); (exact p_step (by assumption) (by assumption))
    | (with_reducible apply store_a); (exact a_step (by assumption) (by assumption))
    | (with_reducible apply store_m); (exact m_step (by assumption) (by assumption))
    | (with_reducible apply store_acc); (exact c_step (by assumption) (by assumption) (by assumption) (by assumption) (by assumption))
    | (with_reducible apply skip_s); intro x
    | (with_reducible apply skip_p); intro x
    | (with_reducible apply skip_a); intro x
    | (with_reducible apply skip_m); intro x
    | (with_reducible apply skip_acc); intro x
    | (with_reducible apply pureR)
    | apply bindR
  refine (St.mono (fun _ h => h) ?_ ?_ ?_ ?_ ?_).trans (hk _ _ (by assumption) (by assumption))
  all_goals
    intros
    rename_i hj
    first
      | (rename_i s hs e he h hh j; interval_cases s <;> interval_cases e <;> interval_cases h <;> first | exact hj | exact nomatch hj)
      | (rename_i e he h hh j; interval_cases e <;> interval_cases h <;> first | exact hj | exact nomatch hj)

end Cert.Proof.Mla

end
-- ==== Proof.MlaTail.lean ====
module

public import proofs.«01_k».proof.Proof.MlaTrip

/-! Rules for the stores that prepare the scratch, for the two inner loops and for the stores of finished output tiles. -/

@[expose] public section

set_option maxRecDepth 16384

noncomputable section

namespace Cert.Proof.Mla

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable {c : Dev nD} {B : Bufs} {X : Ins} {M : Mdl} {O : (S1x4096x128.Idx → EReal) → Prop} {ts tp ta : Tab3} {tm tc : Tab2}

/-- A store of one slot whose payload is everywhere the value of one step sets that slot to the step. -/
theorem Holds5.init {N : Seq} {a b : ℕ} {X' : (⟨5, ![2, 2, 4, a, b]⟩ : Shape).Idx → EReal} {s j : ℕ}
    {inb : ∀ i, (![s, 0, 0, 0, 0] : Fin 5 → ℕ) i + (⟨5, ![1, 2, 4, a, b]⟩ : Shape).size i ≤ (⟨5, ![2, 2, 4, a, b]⟩ : Shape).size i}
    {w : (⟨5, ![1, 2, 4, a, b]⟩ : Shape).Idx → EReal} {v : EReal} (hw : ∀ x, w x = v) (hv : ∀ e h i q, N e h j i q = v)
    (h1 : ∀ x : (⟨5, ![1, 2, 4, a, b]⟩ : Shape).Idx, X' ((Rect.unit (s := ⟨5, ![2, 2, 4, a, b]⟩) ![s, 0, 0, 0, 0] (⟨5, ![1, 2, 4, a, b]⟩ : Shape).size inb).emb x) = w x) :
    Holds5 N (slot s j) X' := by
  intro y i hi
  unfold slot at hi
  by_cases hy : (y 0).val = s
  · subst hy
    simp only [beq_self_eq_true, cond_true, Option.some.injEq] at hi
    subst hi
    have hy' : (Rect.unit (s := ⟨5, ![2, 2, 4, a, b]⟩) ![(y 0).val, 0, 0, 0, 0] (⟨5, ![1, 2, 4, a, b]⟩ : Shape).size inb).emb
        (Idealize.ShloMosaic.ix5 (n0 := 1) (n1 := 2) (n2 := 4) (n3 := a) (n4 := b) 0 (y 1) (y 2) (y 3) (y 4)) = y := by
      apply Rect.emb_eq_of_coords
      intro i
      fin_cases i
      · show (y 0).val = (y 0).val + 1 * 0; omega
      · show (y 1).val = 0 + 1 * (y 1).val; omega
      · show (y 2).val = 0 + 1 * (y 2).val; omega
      · show (y 3).val = 0 + 1 * (y 3).val; omega
      · show (y 4).val = 0 + 1 * (y 4).val; omega
    have h1' := h1 (Idealize.ShloMosaic.ix5 (n0 := 1) (n1 := 2) (n2 := 4) (n3 := a) (n4 := b) 0 (y 1) (y 2) (y 3) (y 4))
    rw [hy', hw] at h1'
    rw [h1', hv]
  · rw [show ((y 0).val == s) = false by simpa using hy, cond_false] at hi
    exact nomatch hi

/-- A store of a whole buffer whose payload is everywhere the value of one step sets the buffer to the step. -/
theorem Holds4.init {N : Seq} {a b : ℕ} {X' : (⟨4, ![2, 4, a, b]⟩ : Shape).Idx → EReal} {j : ℕ}
    {inb : ∀ i, (![0, 0, 0, 0] : Fin 4 → ℕ) i + (⟨4, ![2, 4, a, b]⟩ : Shape).size i ≤ (⟨4, ![2, 4, a, b]⟩ : Shape).size i}
    {w : (⟨4, ![2, 4, a, b]⟩ : Shape).Idx → EReal} {v : EReal} (hw : ∀ x, w x = v) (hv : ∀ e h i q, N e h j i q = v)
    (h1 : ∀ x : (⟨4, ![2, 4, a, b]⟩ : Shape).Idx, X' ((Rect.unit (s := ⟨4, ![2, 4, a, b]⟩) ![0, 0, 0, 0] (⟨4, ![2, 4, a, b]⟩ : Shape).size inb).emb x) = w x) :
    Holds4 N (full j) X' := by
  intro y i hi
  unfold full at hi
  simp only [Option.some.injEq] at hi
  subst hi
  have hy' : (Rect.unit (s := ⟨4, ![2, 4, a, b]⟩) ![0, 0, 0, 0] (⟨4, ![2, 4, a, b]⟩ : Shape).size inb).emb y = y := by
    apply Rect.emb_eq_of_coords
    intro i
    fin_cases i
    · show (y 0).val = 0 + 1 * (y 0).val; omega
    · show (y 1).val = 0 + 1 * (y 1).val; omega
    · show (y 2).val = 0 + 1 * (y 2).val; omega
    · show (y 3).val = 0 + 1 * (y 3).val; omega
  have h1' := h1 y
  rw [hy', hw] at h1'
  rw [h1', hv]

/-- The largest of minus infinities is minus infinity. -/
theorem fold_bot {n : ℕ} : Finset.fold max ⊥ (fun _ : Fin n => (⊥ : EReal)) Finset.univ = ⊥ :=
  le_antisymm ((Finset.fold_max_le _).mpr ⟨le_refl _, fun _ _ => le_refl _⟩) bot_le

/-- The score slot is set to minus infinity, its value at step 1. -/
theorem init_s {t : ℕ} {inb : ∀ i, (![1, 0, 0, 0, 0] : Fin 5 → ℕ) i + S1x2x4x256x256.size i ≤ S2x2x4x256x256.size i}
    {w : S1x2x4x256x256.Idx → EReal} {hx} {hu} {Q : PUnit → sProp 𝕄} (hw : ∀ x, w x = ⊥)
    (hk : St c B X (mdl X t) O (slot 1 1) tp ta tm tc ⊢ Q ⟨⟩) :
    St c B X (mdl X t) O ts tp ta tm tc ⊢ WP c (Prog.lift (.store B.s (Rect.unit (s := S2x2x4x256x256) ![1, 0, 0, 0, 0] S1x2x4x256x256.size inb) w Finset.univ hx hu)
      : Prog (TpuEff nD τ sig (Elt Ideal) Λ₀ .tc) _) Q :=
  storeR (lend_s _) (fun _ _ _ h1 _ => Holds5.init hw (fun e h i q => by simp [mS]) h1) hk

/-- The weight slot is set to zero, its value at step 0. -/
theorem init_p {t : ℕ} {inb : ∀ i, (![0, 0, 0, 0, 0] : Fin 5 → ℕ) i + S1x2x4x256x256.size i ≤ S2x2x4x256x256.size i}
    {w : S1x2x4x256x256.Idx → EReal} {hx} {hu} {Q : PUnit → sProp 𝕄} (hw : ∀ x, w x = 0)
    (hk : St c B X (mdl X t) O ts (slot 0 0) ta tm tc ⊢ Q ⟨⟩) :
    St c B X (mdl X t) O ts tp ta tm tc ⊢ WP c (Prog.lift (.store B.p (Rect.unit (s := S2x2x4x256x256) ![0, 0, 0, 0, 0] S1x2x4x256x256.size inb) w Finset.univ hx hu)
      : Prog (TpuEff nD τ sig (Elt Ideal) Λ₀ .tc) _) Q :=
  storeR (lend_p _) (fun _ _ _ h1 _ => Holds5.init hw (fun e h i q => by simp [mP, mS, EReal.bot_sub, Ideal.exp2]; rfl) h1) hk

/-- The rescaling slot is set to one, its value at step 0. -/
theorem init_a {t : ℕ} {inb : ∀ i, (![0, 0, 0, 0, 0] : Fin 5 → ℕ) i + S1x2x4x1x256.size i ≤ S2x2x4x1x256.size i}
    {w : S1x2x4x1x256.Idx → EReal} {hx} {hu} {Q : PUnit → sProp 𝕄} (hw : ∀ x, w x = 1)
    (hk : St c B X (mdl X t) O ts tp (slot 0 0) tm tc ⊢ Q ⟨⟩) :
    St c B X (mdl X t) O ts tp ta tm tc ⊢ WP c (Prog.lift (.store B.a (Rect.unit (s := S2x2x4x1x256) ![0, 0, 0, 0, 0] S1x2x4x1x256.size inb) w Finset.univ hx hu)
      : Prog (TpuEff nD τ sig (Elt Ideal) Λ₀ .tc) _) Q :=
  storeR (lend_a _) (fun _ _ _ h1 _ => Holds5.init hw (fun e h i q => by simp [mA]) h1) hk

/-- The running maxima are set to minus infinity, their value at step 1. -/
theorem init_m {t : ℕ} {inb : ∀ i, (![0, 0, 0, 0] : Fin 4 → ℕ) i + S2x4x1x256.size i ≤ S2x4x1x256.size i}
    {w : S2x4x1x256.Idx → EReal} {hx} {hu} {Q : PUnit → sProp 𝕄} (hw : ∀ x, w x = ⊥)
    (hk : St c B X (mdl X t) O ts tp ta (full 1) tc ⊢ Q ⟨⟩) :
    St c B X (mdl X t) O ts tp ta tm tc ⊢ WP c (Prog.lift (.store B.m (Rect.unit (s := S2x4x1x256) ![0, 0, 0, 0] S2x4x1x256.size inb) w Finset.univ hx hu)
      : Prog (TpuEff nD τ sig (Elt Ideal) Λ₀ .tc) _) Q :=
  storeR (lend_m _) (fun _ _ _ h1 _ => Holds4.init hw (fun e h i q => by simp [mM, mS, fold_bot]) h1) hk

/-- The accumulators are set to zero, their value at step 0. -/
theorem init_acc {t : ℕ} {inb : ∀ i, (![0, 0, 0, 0] : Fin 4 → ℕ) i + S2x4x80x256.size i ≤ S2x4x80x256.size i}
    {w : S2x4x80x256.Idx → EReal} {hx} {hu} {Q : PUnit → sProp 𝕄} (hw : ∀ x, w x = 0)
    (hk : St c B X (mdl X t) O ts tp ta tm (full 0) ⊢ Q ⟨⟩) :
    St c B X (mdl X t) O ts tp ta tm tc ⊢ WP c (Prog.lift (.store B.acc (Rect.unit (s := S2x4x80x256) ![0, 0, 0, 0] S2x4x80x256.size inb) w Finset.univ hx hu)
      : Prog (TpuEff nD τ sig (Elt Ideal) Λ₀ .tc) _) Q :=
  storeR (lend_acc _) (fun _ _ _ h1 _ => Holds4.init hw (fun e h i q => by simp [mC]) h1) hk

/-- What the output block holds in row `r` and lane `l` when the call is done. -/
def mY (X : Ins) (r l : ℕ) : EReal := mO X (r / 1024) (l / 64) (r % 1024 / 256) (4 * (r / 1024) + (r % 1024 / 256) + 3) (l % 64) (r % 256)

/-- The first `n` tiles of 256 rows of the output are finished. -/
def Done (X : Ins) (n : ℕ) (Y : S1x4096x128.Idx → EReal) : Prop := ∀ r l, r.val < 256 * n → Y (Idealize.ShloMosaic.ix3 0 r l) = mY X r.val l.val

/-- The store of a finished tile after `4 t + h` others. -/
theorem store_o {t h n : ℕ} {off : Fin 3 → ℕ} {inb : ∀ i, off i + S1x256x128.size i ≤ S1x4096x128.size i}
    {x y : FVec Ideal S1x1x80x256 .f32} {hx} {hu} {Q : PUnit → sProp 𝕄}
    (ho : off = ![0, 1024 * t + 256 * h, 0]) (hn : n = 4 * t + h) (hh : h < 4)
    (h0 : Cell4 (mdl X t).acc 0 h (4 * t + h + 3) (a := 80) (b := 256) x) (h1 : Cell4 (mdl X t).acc 1 h (4 * t + h + 3) (a := 80) (b := 256) y)
    (hk : St c B X M (Done X (n + 1)) ts tp ta tm tc ⊢ Q ⟨⟩) :
    St c B X M (Done X n) ts tp ta tm tc ⊢ WP c (Prog.lift (.store B.o (Rect.unit (s := S1x4096x128) off S1x256x128.size inb) (outTile x y) Finset.univ hx hu)
      : Prog (TpuEff nD τ sig (Elt Ideal) Λ₀ .tc) _) Q :=
  storeR (lend_o _) (fun Y Y' hY g1 g2 r l hr => by
    subst ho hn
    by_cases hlt : r.val < 256 * (4 * t + h)
    · rw [g2, hY r l hlt]
      intro hmem
      have m := Rect.mem_set_unit.mp hmem
      have m1 : 1024 * t + 256 * h ≤ r.val ∧ r.val < 1024 * t + 256 * h + 256 := m 1
      omega
    · have e := g1 (Idealize.ShloMosaic.ix3 (n0 := 1) (n1 := 256) (n2 := 128) 0 ⟨r.val - (1024 * t + 256 * h), by omega⟩ l)
      rw [show (Rect.unit (s := S1x4096x128) ![0, 1024 * t + 256 * h, 0] S1x256x128.size inb).emb
          (Idealize.ShloMosaic.ix3 (n0 := 1) (n1 := 256) (n2 := 128) 0 ⟨r.val - (1024 * t + 256 * h), by omega⟩ l)
          = Idealize.ShloMosaic.ix3 (n0 := 1) (n1 := 4096) (n2 := 128) 0 r l by
        apply Rect.emb_eq_of_coords
        intro i
        fin_cases i
        · rfl
        · show r.val = 1024 * t + 256 * h + 1 * (r.val - (1024 * t + 256 * h)); omega
        · show l.val = 0 + 1 * l.val; omega, out_step h0 h1] at e
      rw [e]
      unfold mY
      rw [show r.val / 1024 = t by omega, show r.val % 1024 / 256 = h by omega, show r.val % 256 = r.val - (1024 * t + 256 * h) by omega]) hk

/-- Where block 0 of a trip's queries is written. -/
theorem off15_0 (t1 : Fin k0_t1_loop.trips) : k0_off15 t1 0#32 = ![0, 1024 * t1.val + 256 * 0, 0] := (k0_off15_eq t1 0)
/-- Where block 1 of a trip's queries is written. -/
theorem off15_1 (t1 : Fin k0_t1_loop.trips) : k0_off15 t1 256#32 = ![0, 1024 * t1.val + 256 * 1, 0] := (k0_off15_eq t1 1)
/-- Where block 2 of a trip's queries is written. -/
theorem off15_2 (t1 : Fin k0_t1_loop.trips) : k0_off15 t1 512#32 = ![0, 1024 * t1.val + 256 * 2, 0] := (k0_off15_eq t1 2)
/-- Where block 3 of a trip's queries is written. -/
theorem off15_3 (t1 : Fin k0_t1_loop.trips) : k0_off15 t1 768#32 = ![0, 1024 * t1.val + 256 * 3, 0] := (k0_off15_eq t1 3)

/-- What the loop over the key tiles below the diagonal keeps: the pipeline's state before step `n`. -/
abbrev Inv (c : Dev nD) (B : Bufs) (X : Ins) (t : ℕ) (O : (S1x4096x128.Idx → EReal) → Prop) (n : ℕ) : sProp 𝕄 :=
  St c B X (mdl X t) O (slot 1 (n + 1)) (slot 0 n) (slot 0 n) (full (n + 1)) (full n)

/-- The loop over the key tiles below the diagonal. -/
theorem loop2 {t1 : Fin k0_t1_loop.trips} {hok : (k0_t2_loop t1).OK} {init : PUnit}
    {body : Fin (k0_t2_loop t1).trips → PUnit → Prog (TpuEff nD τ sig (Elt Ideal) Λ₀ .tc) PUnit} {Q : PUnit → sProp 𝕄}
    (hb : ∀ k : Fin (k0_t2_loop t1).trips, Inv c B X t1.val O (4 * k.val) ⊢ WP c (body k ⟨⟩) (fun _ => Inv c B X t1.val O (4 * (k.val + 1))))
    (hq : Inv c B X t1.val O (4 * t1.val) ⊢ Q ⟨⟩) :
    St c B X (mdl X t1.val) O (slot 1 1) (slot 0 0) (slot 0 0) (full 1) (full 0) ⊢ WP c (Scf.Loop.for (k0_t2_loop t1) hok init body) Q :=
  forR (fun n => Inv c B X t1.val O (4 * n)) (Entails.refl _) hb (by rw [trips2]; exact hq)

/-- The second loop makes no trips. -/
theorem loop3 {H : sProp 𝕄} {t1 : Fin k0_t1_loop.trips} {hok : (k0_t3_loop t1).OK} {init : PUnit}
    {body : Fin (k0_t3_loop t1).trips → PUnit → Prog (TpuEff nD τ sig (Elt Ideal) Λ₀ .tc) PUnit} {Q : PUnit → sProp 𝕄} (hq : H ⊢ Q ⟨⟩) :
    H ⊢ WP c (Scf.Loop.for (k0_t3_loop t1) hok init body) Q :=
  forR (fun _ => H) (Entails.refl _) (fun k => absurd k.isLt (by have := trips3 t1; omega)) hq

/-- The scratch's contents may be forgotten. -/
theorem St.forget {M' : Mdl} : St c B X M O ts tp ta tm tc ⊢ St c B X M' O (fun _ _ _ => none) (fun _ _ _ => none) (fun _ _ _ => none) (fun _ _ => none) (fun _ _ => none) := by
  refine (St.mono (ts' := fun _ _ _ => none) (tp' := fun _ _ _ => none) (ta' := fun _ _ _ => none) (tm' := fun _ _ => none) (tc' := fun _ _ => none)
    (fun _ h => h) ?_ ?_ ?_ ?_ ?_).trans ?_
  · exact fun _ _ _ _ _ _ _ h => nomatch h
  · exact fun _ _ _ _ _ _ _ h => nomatch h
  · exact fun _ _ _ _ _ _ _ h => nomatch h
  · exact fun _ _ _ _ _ h => nomatch h
  · exact fun _ _ _ _ _ h => nomatch h
  have e5 : ∀ {a b : ℕ} (N N' : Seq) (Y : (⟨5, ![2, 2, 4, a, b]⟩ : Shape).Idx → EReal), Holds5 N (fun _ _ _ => none) Y = Holds5 N' (fun _ _ _ => none) Y := by
    intro a b N N' Y; unfold Holds5; simp
  have e4 : ∀ {a b : ℕ} (N N' : Seq) (Y : (⟨4, ![2, 4, a, b]⟩ : Shape).Idx → EReal), Holds4 N (fun _ _ => none) Y = Holds4 N' (fun _ _ => none) Y := by
    intro a b N N' Y; unfold Holds4; simp
  unfold St
  rw [show (Holds5 M.s (fun _ _ _ => none) : (S2x2x4x256x256.Idx → EReal) → Prop) = Holds5 M'.s (fun _ _ _ => none) from funext (e5 _ _),
    show (Holds5 M.p (fun _ _ _ => none) : (S2x2x4x256x256.Idx → EReal) → Prop) = Holds5 M'.p (fun _ _ _ => none) from funext (e5 _ _),
    show (Holds5 M.a (fun _ _ _ => none) : (S2x2x4x1x256.Idx → EReal) → Prop) = Holds5 M'.a (fun _ _ _ => none) from funext (e5 _ _),
    show (Holds4 M.m (fun _ _ => none) : (S2x4x1x256.Idx → EReal) → Prop) = Holds4 M'.m (fun _ _ => none) from funext (e4 _ _),
    show (Holds4 M.acc (fun _ _ => none) : (S2x4x80x256.Idx → EReal) → Prop) = Holds4 M'.acc (fun _ _ => none) from funext (e4 _ _)]

end Cert.Proof.Mla

end
-- ==== Proof.MlaBlock.lean ====
module

public import proofs.«01_k».proof.Proof.MlaTail

/-! One trip of the outer loop: the attention of 1024 queries to all keys not after them. -/

@[expose] public section

set_option maxRecDepth 16384

noncomputable section

namespace Cert.Proof.Mla

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 0

attribute [local irreducible] Cell4 Cell5 KCell QCell VCell St WP k0_off1 k0_off2 k0_off11 k0_off12 k0_off13 k0_off14 k0_off15

/-- The number zero of 32 bits. -/
theorem zero_f32 : (FloatOps.ofBits .f32 0x00000000#32 : Ideal .f32) = (0 : EReal) := by simp [Ideal.ofBits, Ideal.ieee]

/-- The number zero of 16 bits. -/
theorem zero_bf16 : (FloatOps.ofBits .bf16 0x0000#16 : Ideal .bf16) = (0 : EReal) := by simp [Ideal.ofBits, Ideal.ieee]

/-- The number one. -/
theorem one_f32 : (FloatOps.ofBits .f32 0x3F800000#32 : Ideal .f32) = (1 : EReal) := by simp [Ideal.ofBits, Ideal.ieee]; rw [← EReal.coe_mul]; norm_num

/-- The body of the call leaves the whole output block finished. -/
theorem block (c : Dev nD) (X : Ins) (i : grid0.Coords)
    (arg2 : Memref sig .tc .vmem S1x4096x256 .bf16) (harg2 : arg2.IsWhole) (arg3 : Memref sig .tc .vmem S1x4096x256 .bf16) (harg3 : arg3.IsWhole)
    (arg4 : Memref sig .tc .vmem S1x32x160x128 .bf16) (harg4 : arg4.IsWhole) (arg5 : Memref sig .tc .vmem S1x4096x128 .bf16) (harg5 : arg5.IsWhole)
    (arg6 : Memref sig .tc .vmem S2x2x4x256x256 .f32) (harg6 : arg6.IsWhole) (arg7 : Memref sig .tc .vmem S2x2x4x256x256 .bf16) (harg7 : arg7.IsWhole)
    (arg8 : Memref sig .tc .vmem S2x2x4x1x256 .f32) (harg8 : arg8.IsWhole) (arg9 : Memref sig .tc .vmem S2x4x1x256 .f32) (harg9 : arg9.IsWhole)
    (arg10 : Memref sig .tc .vmem S2x4x80x256 .f32) (harg10 : arg10.IsWhole) :
    St c ⟨arg2, arg3, arg4, arg5, arg6, arg7, arg8, arg9, arg10⟩ X (mdl X 0) (Done X 0) (fun _ _ _ => none) (fun _ _ _ => none) (fun _ _ _ => none) (fun _ _ => none) (fun _ _ => none) ⊢
    WP c (cc0_mla_attn (F := Ideal) i arg2 harg2 arg3 harg3 arg4 harg4 arg5 harg5 arg6 harg6 arg7 harg7 arg8 harg8 arg9 harg9 arg10 harg10) (fun _ => St c ⟨arg2, arg3, arg4, arg5, arg6, arg7, arg8, arg9, arg10⟩ X (mdl X 4) (Done X 16) (fun _ _ _ => none) (fun _ _ _ => none) (fun _ _ _ => none) (fun _ _ => none) (fun _ _ => none)) := by
  apply bindR
  refine forR (fun n => St c ⟨arg2, arg3, arg4, arg5, arg6, arg7, arg8, arg9, arg10⟩ X (mdl X n) (Done X (4 * n)) (fun _ _ _ => none) (fun _ _ _ => none) (fun _ _ _ => none) (fun _ _ => none) (fun _ _ => none)) (Entails.refl _) (fun t1 => ?_) ?_
  swap
  · with_reducible apply pureR
    exact Entails.refl _
  iterate first
    | (with_reducible apply load_q (off1 _)); intro x hx
    | (with_reducible apply load_q (off2 _)); intro x hx
    | (with_reducible apply init_s); (exact fun _ => neg_inf)
    | (with_reducible apply init_p); (exact fun _ => zero_bf16)
    | (with_reducible apply init_a); (exact fun _ => one_f32)
    | (with_reducible apply init_m); (exact fun _ => neg_inf)
    | (with_reducible apply init_acc); (exact fun _ => zero_f32)
    | (with_reducible apply skip_s); intro x
    | (with_reducible apply skip_p); intro x
    | (with_reducible apply skip_a); intro x
    | (with_reducible apply skip_m); intro x
    | (with_reducible apply skip_acc); intro x
    | (with_reducible apply pureR)
    | apply bindR
  with_reducible apply loop2
  · intro k
    apply bindR
    with_reducible apply trip
    · assumption
    · assumption
    · intro r h hr
      have h1 := k.isLt
      have h2 := trips2 t1
      omega
    intro x m hx hm
    repeat' first
      | (with_reducible apply load_s); (exact rfl); intro x hx
      | (with_reducible apply load_p); (exact rfl); intro x hx
      | (with_reducible apply load_a); (exact rfl); intro x hx
      | (with_reducible apply load_m); (exact rfl); intro x hx
      | (with_reducible apply load_acc); (exact rfl); intro x hx
      | (with_reducible apply load_k); (first
          | with_reducible exact off5 _ _ 0 (by decide) | with_reducible exact off5 _ _ 1 (by decide) | with_reducible exact off5 _ _ 2 (by decide) | with_reducible exact off5 _ _ 3 (by decide)
          | with_reducible exact off6 _ _ 0 (by decide) | with_reducible exact off6 _ _ 1 (by decide) | with_reducible exact off6 _ _ 2 (by decide) | with_reducible exact off6 _ _ 3 (by decide)); intro x hx
      | (with_reducible apply load_v); (first
          | with_reducible exact off3 _ _ 0 0 (by decide) (by decide) | with_reducible exact off3 _ _ 1 0 (by decide) (by decide) | with_reducible exact off3 _ _ 2 0 (by decide) (by decide) | with_reducible exact off3 _ _ 3 0 (by decide) (by decide)
          | with_reducible exact off3 _ _ 0 1 (by decide) (by decide) | with_reducible exact off3 _ _ 1 1 (by decide) (by decide) | with_reducible exact off3 _ _ 2 1 (by decide) (by decide) | with_reducible exact off3 _ _ 3 1 (by decide) (by decide)
          | with_reducible exact off4 _ _ 0 0 (by decide) (by decide) | with_reducible exact off4 _ _ 1 0 (by decide) (by decide) | with_reducible exact off4 _ _ 2 0 (by decide) (by decide) | with_reducible exact off4 _ _ 3 0 (by decide) (by decide)
          | with_reducible exact off4 _ _ 0 1 (by decide) (by decide) | with_reducible exact off4 _ _ 1 1 (by decide) (by decide) | with_reducible exact off4 _ _ 2 1 (by decide) (by decide) | with_reducible exact off4 _ _ 3 1 (by decide) (by decide)); intro x hx
      | (with_reducible apply store_s); (exact s_below (tile4_apply (by assumption) (by assumption) _ rfl) (by assumption))
      | (with_reducible apply store_p); (exact p_step (by assumption) (by assumption))
      | (with_reducible apply store_a); (exact a_step (by assumption) (by assumption))
      | (with_reducible apply store_m); (exact m_step (by assumption) (by assumption))
      | (with_reducible apply store_acc); (exact c_step (by assumption) (by assumption) (by assumption) (by assumption) (by assumption))
      | (with_reducible apply skip_s); intro x
      | (with_reducible apply skip_p); intro x
      | (with_reducible apply skip_a); intro x
      | (with_reducible apply skip_m); intro x
      | (with_reducible apply skip_acc); intro x
      | (with_reducible apply pureR)
      | apply bindR
    refine St.mono (fun _ h => h) ?_ ?_ ?_ ?_ ?_
    all_goals
      intros
      rename_i hj
      first
        | (rename_i s hs e he h hh j; interval_cases s <;> interval_cases e <;> interval_cases h <;> first | exact hj | exact nomatch hj)
        | (rename_i e he h hh j; interval_cases e <;> interval_cases h <;> first | exact hj | exact nomatch hj)
  repeat' first
    | (with_reducible apply load_s); (exact rfl); intro x hx
    | (with_reducible apply load_p); (exact rfl); intro x hx
    | (with_reducible apply load_a); (exact rfl); intro x hx
    | (with_reducible apply load_m); (exact rfl); intro x hx
    | (with_reducible apply load_acc); (exact rfl); intro x hx
    | (with_reducible apply load_k); (first | with_reducible exact off13 _ 0 (by decide) | with_reducible exact off13 _ 1 (by decide) | with_reducible exact off13 _ 2 (by decide) | with_reducible exact off13 _ 3 (by decide) | with_reducible exact off14 _ 0 (by decide) | with_reducible exact off14 _ 1 (by decide) | with_reducible exact off14 _ 2 (by decide) | with_reducible exact off14 _ 3 (by decide)); intro x hx
    | (with_reducible apply load_v); (first | with_reducible exact off11 _ 0 0 (by decide) (by decide) | with_reducible exact off11 _ 0 1 (by decide) (by decide) | with_reducible exact off11 _ 1 0 (by decide) (by decide) | with_reducible exact off11 _ 1 1 (by decide) (by decide) | with_reducible exact off11 _ 2 0 (by decide) (by decide) | with_reducible exact off11 _ 2 1 (by decide) (by decide) | with_reducible exact off11 _ 3 0 (by decide) (by decide) | with_reducible exact off11 _ 3 1 (by decide) (by decide) | with_reducible exact off11 _ 4 0 (by decide) (by decide) | with_reducible exact off11 _ 4 1 (by decide) (by decide) | with_reducible exact off11 _ 5 0 (by decide) (by decide) | with_reducible exact off11 _ 5 1 (by decide) (by decide) | with_reducible exact off12 _ 0 0 (by decide) (by decide) | with_reducible exact off12 _ 0 1 (by decide) (by decide) | with_reducible exact off12 _ 1 0 (by decide) (by decide) | with_reducible exact off12 _ 1 1 (by decide) (by decide) | with_reducible exact off12 _ 2 0 (by decide) (by decide) | with_reducible exact off12 _ 2 1 (by decide) (by decide) | with_reducible exact off12 _ 3 0 (by decide) (by decide) | with_reducible exact off12 _ 3 1 (by decide) (by decide) | with_reducible exact off12 _ 4 0 (by decide) (by decide) | with_reducible exact off12 _ 4 1 (by decide) (by decide) | with_reducible exact off12 _ 5 0 (by decide) (by decide) | with_reducible exact off12 _ 5 1 (by decide) (by decide)); intro x hx
    | (with_reducible apply store_s); (first
        | (with_reducible apply s_diag); ((first | with_reducible apply tile4_apply | with_reducible apply tile3_apply | with_reducible apply tile2_apply | with_reducible apply tile1_apply) <;> (first | assumption | exact rfl)); (exact rfl)
        | (with_reducible apply s_below); ((first | with_reducible apply tile4_apply | with_reducible apply tile3_apply | with_reducible apply tile2_apply | with_reducible apply tile1_apply) <;> (first | assumption | exact rfl)); (exact Nat.add_lt_add_left (by decide) _))
    | (with_reducible apply store_p); (exact p_step (by assumption) (by assumption))
    | (with_reducible apply store_a); (exact a_step (by assumption) (by assumption))
    | (with_reducible apply store_m); (exact m_step (by assumption) (by assumption))
    | (with_reducible apply store_acc); (exact c_step (by assumption) (by assumption) (by assumption) (by assumption) (by assumption))
    | (with_reducible apply store_o); (first | with_reducible exact off15_0 _ | with_reducible exact off15_1 _ | with_reducible exact off15_2 _ | with_reducible exact off15_3 _); (exact rfl); (decide); (assumption); (assumption)
    | (with_reducible apply skip_s); intro x
    | (with_reducible apply skip_p); intro x
    | (with_reducible apply skip_a); intro x
    | (with_reducible apply skip_m); intro x
    | (with_reducible apply skip_acc); intro x
    | (with_reducible apply skip_o); intro x
    | (with_reducible apply loop3)
    | (with_reducible apply pureR)
    | apply bindR
  exact St.forget

end Cert.Proof.Mla
end
-- ==== Proof.MlaRun.lean ====
module

public import proofs.«01_k».proof.Proof.MlaBlock
public import proofs.«01_k».proof.Proof.Gen.Kernel3Ideal.Frame

/-! The latent attention's launch: the body's triple, at every grid point, gives the run and its result array. -/

@[expose] public section

set_option maxRecDepth 16384

noncomputable section

namespace Cert.Proof.Mla

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A staging buffer owned at contents with a property. -/
theorem heldP_of_owns (c : Dev nD) {sp : Space} {s : Shape} {e : EltTy} (m : Memref sig .tc sp s e) (X : s.Idx → Elt Ideal e)
    {P : (s.Idx → Elt Ideal e) → Prop} (h : P X) :
    (owns (Ix := Unit) (Name := ℕ) (U := UR sig nD τ) (Lvl := ℕ) (c : Thread nD τ) m fullShare X : sProp 𝕄) ⊢ heldP c m P := by
  unfold owns heldP
  iintro ⟨%f, %hf, H⟩
  iexists f
  isplitr
  · ipureintro; rw [hf]; exact h
  iexact H

/-- A buffer held at a property that only one array has is owned at that array. -/
theorem owns_of_heldP (c : Dev nD) {sp : Space} {s : Shape} {e : EltTy} (m : Memref sig .tc sp s e) (X : s.Idx → Elt Ideal e)
    {P : (s.Idx → Elt Ideal e) → Prop} (h : ∀ Y, P Y → Y = X) :
    heldP c m P ⊢ (owns (Ix := Unit) (Name := ℕ) (U := UR sig nD τ) (Lvl := ℕ) (c : Thread nD τ) m fullShare X : sProp 𝕄) := by
  unfold owns heldP
  iintro ⟨%f, %hf, H⟩
  iexists f
  isplitr
  · ipureintro; exact h _ hf
  iexact H

/-- A scratch buffer, whole at some contents, is held at any property that says nothing. -/
theorem heldP_of_scratch (c : Dev nD) (b : Ref sig .tc) {P : (b.ty.shape.Idx → Elt Ideal b.ty.elt) → Prop} (h : ∀ X, P X) :
    (iprop(∃ f : Buf (Elt Ideal) ((c : Thread nD τ).loc b), ((c : Thread nD τ).loc b) ↦{fullShare} f) : sProp 𝕄) ⊢ heldP c (Memref.whole b) P := by
  unfold heldP
  rw [show (Memref.whole b).view.set = Finset.univ from View.set_whole b]
  iintro ⟨%f, H⟩
  iexists f
  isplitr
  · ipureintro; exact h _
  iexact H

/-- A held scratch buffer is whole at some contents. -/
theorem scratch_of_heldP (c : Dev nD) (b : Ref sig .tc) {P : (b.ty.shape.Idx → Elt Ideal b.ty.elt) → Prop} :
    heldP c (Memref.whole b) P ⊢ (iprop(∃ f : Buf (Elt Ideal) ((c : Thread nD τ).loc b), ((c : Thread nD τ).loc b) ↦{fullShare} f) : sProp 𝕄) := by
  unfold heldP
  rw [show (Memref.whole b).view.set = Finset.univ from View.set_whole b]
  iintro ⟨%f, -, H⟩
  iexists f; iexact H

variable (m : (ℓ : Loc nD τ sig) → Buf (Elt Ideal) ℓ) (ρ : Dev nD → PrngReg)

/-- The blocks the body is given at grid point `t`. -/
def ins (c : Dev nD) (t : Fin cfg0.N) : Ins := ⟨iblk m c 0 t, iblk m c 1 t, iblk m c 2 t⟩

/-- What the body leaves in the result's block. -/
def outBlock (c : Dev nD) (t : Fin cfg0.N) : S1x4096x128.Idx → EReal := fun y => mY (ins m c t) (y 1).val (y 2).val

/-- A finished block is the one the model names. -/
theorem Done.eq {X : Ins} {Y : S1x4096x128.Idx → EReal} (h : Done X 16 Y) : Y = fun y => mY X (y 1).val (y 2).val := by
  funext y
  rw [← Idealize.ShloMosaic.ix3_eta y]
  have e : y 0 = (0 : Fin 1) := Subsingleton.elim (α := Fin 1) _ _
  rw [e]
  exact h (y 1) (y 2) (y 1).isLt

/-- The launch's data: the arrays as the launch finds them, and what the body leaves in each window. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ _ := Pipeline.ΦA spec0 c
  q _ := fullShare
  owed _ := 0

/-- The launch's arrays are those the host operations leave. -/
theorem A_eq (c : Dev nD) (w : Fin cfg0.W) : (dats m 0 c).A w = V m c (Pipeline.arrRef spec0 w) := by dsimp only [dats]

/-- The body leaves its queries as they were. -/
theorem after_0 (c : Dev nD) (t : Fin cfg0.N) : (dats m 0 c).after 0 t = iblk m c 0 t := by dsimp only [dats]
/-- The body leaves its keys as they were. -/
theorem after_1 (c : Dev nD) (t : Fin cfg0.N) : (dats m 0 c).after 1 t = iblk m c 1 t := by dsimp only [dats]
/-- The body leaves its values as they were. -/
theorem after_2 (c : Dev nD) (t : Fin cfg0.N) : (dats m 0 c).after 2 t = iblk m c 2 t := by dsimp only [dats]
/-- The body leaves the output block of the model. -/
theorem after_3 (c : Dev nD) (t : Fin cfg0.N) : (dats m 0 c).after 3 t = outBlock m c t := by dsimp only [dats]

/-- The body finds the queries of its grid point. -/
theorem before_0 (c : Dev nD) (t : Fin cfg0.N) (d) : (dats m 0 c).before 0 t d = iblk m c 0 t :=
  before0_0_of m (dats m 0 c) (A_eq m c 0) (after_0 m c) t d
/-- The body finds the keys of its grid point. -/
theorem before_1 (c : Dev nD) (t : Fin cfg0.N) (d) : (dats m 0 c).before 1 t d = iblk m c 1 t :=
  before0_1_of m (dats m 0 c) (A_eq m c 1) (after_1 m c) t d
/-- The body finds the values of its grid point. -/
theorem before_2 (c : Dev nD) (t : Fin cfg0.N) (d) : (dats m 0 c).before 2 t d = iblk m c 2 t :=
  before0_2_of m (dats m 0 c) (A_eq m c 2) (after_2 m c) t d

/-- What the launch calls at a grid point is the printed body. -/
theorem body_row (t : Fin cfg0.N) : defs₀ (F := Ideal) .tc cfg0.body (cfg0.bodyArgs t (cfg0.slots t)) = bodyAt0 t := by
  unfold defs₀; rw [Defs.onTc_tc]

/-- The windows and scratch buffers the body is given at grid point `t`, with the launch's contents and back. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d)))
    ⊢ (wp frame (wpE (defs₀ (F := Ideal)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t))) : sProp 𝕄) := by
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  have hb := block c (ins m c t) (grid0.coords t) (st0_0 t) (hstage0_0 _) (st0_1 t) (hstage0_1 _) (st0_2 t) (hstage0_2 _) (st0_3 t) (hstage0_3 _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
  unfold WP at hb
  refine .trans (Q := iprop(_ ∗ ((∃ r, prngReg c r) ∗ (dats m 0 c).owesAt () t.castSucc))) ?_ ((sep_mono_l hb).trans
    ((wp_frame_r _ _ _).trans (wp_mono _ _ _ fun _ => ?_)))
  · simp only [dats, Pipeline.ΦA, scopedRest0_eq, St]
    iintro ⟨⟨⟨S0, S1, S2, S3, S4⟩, Hr⟩, Ho, ⟨%d0, H0⟩, ⟨%d1, H1⟩, ⟨%d2, H2⟩, ⟨%d3, H3⟩⟩
    ihave H0 := heldP_of_owns c _ _ (P := (· = (ins m c t).q)) rfl $$ H0
    ihave H1 := heldP_of_owns c _ _ (P := (· = (ins m c t).k)) rfl $$ H1
    ihave H2 := heldP_of_owns c _ _ (P := (· = (ins m c t).v)) rfl $$ H2
    ihave H3 := heldP_of_owns c _ _ (P := Done (ins m c t) 0) (fun r l hr => absurd hr (by omega)) $$ H3
    ihave S0 := heldP_of_scratch c cc0_scratch0 (P := Holds5 (a := 256) (b := 256) (fun e h j i q => mS (ins m c t) 0 e h j i q) fun _ _ _ => none) (fun X y j hj => nomatch hj) $$ S0
    ihave S1 := heldP_of_scratch c cc0_scratch1 (P := Holds5 (a := 256) (b := 256) (fun e h j i q => mP (ins m c t) 0 e h j i q) fun _ _ _ => none) (fun X y j hj => nomatch hj) $$ S1
    ihave S2 := heldP_of_scratch c cc0_scratch2 (P := Holds5 (a := 1) (b := 256) (fun e h j _ q => mA (ins m c t) 0 e h j q) fun _ _ _ => none) (fun X y j hj => nomatch hj) $$ S2
    ihave S3 := heldP_of_scratch c cc0_scratch3 (P := Holds4 (a := 1) (b := 256) (fun e h j _ q => mM (ins m c t) 0 e h j q) fun _ _ => none) (fun X y j hj => nomatch hj) $$ S3
    ihave S4 := heldP_of_scratch c cc0_scratch4 (P := Holds4 (a := 80) (b := 256) (fun e h j d q => mC (ins m c t) 0 e h j d q) fun _ _ => none) (fun X y j hj => nomatch hj) $$ S4
    iframe
  · simp only [dats, Pipeline.ΦA, scopedRest0_eq, St]
    iintro ⟨⟨H0, H1, H2, H3, S0, S1, S2, S3, S4⟩, Hr, Ho⟩
    ihave H0 := owns_of_heldP c _ (iblk m c 0 t) (P := (· = (ins m c t).q)) (fun _ h => h) $$ H0
    ihave H1 := owns_of_heldP c _ (iblk m c 1 t) (P := (· = (ins m c t).k)) (fun _ h => h) $$ H1
    ihave H2 := owns_of_heldP c _ (iblk m c 2 t) (P := (· = (ins m c t).v)) (fun _ h => h) $$ H2
    ihave H3 := owns_of_heldP c _ (outBlock m c t) (fun _ h => h.eq) $$ H3
    ihave S0 := scratch_of_heldP c cc0_scratch0 $$ S0
    ihave S1 := scratch_of_heldP c cc0_scratch1 $$ S1
    ihave S2 := scratch_of_heldP c cc0_scratch2 $$ S2
    ihave S3 := scratch_of_heldP c cc0_scratch3 $$ S3
    ihave S4 := scratch_of_heldP c cc0_scratch4 $$ S4
    iframe

/-- The library's obligation on the body, at every grid point. -/
theorem body_obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
set_option maxHeartbeats 800000 in
/-- The launch terminates, with the arrays the launch's data name and every counter at zero. -/
theorem run_main : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The latent attention call terminates with its arguments unchanged and every counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩, h.2⟩) (run_main m ρ)

end Cert.Proof.Mla
end
-- ==== Proof.MlaMath.lean ====
module

public import proofs.«01_k».proof.Proof.MlaTail

/-! The online softmax equals the softmax.

The accumulator, rescaled tile by tile, is at every step the sum over the keys seen so far of the values
weighted by powers of two of the logits less the running maximum. Nothing of the maximum is used but that it
is a real number: the last quotient does not depend on it. Values may be infinite: a finite weight that is
not negative distributes over any sum. -/

@[expose] public section

set_option maxRecDepth 16384

noncomputable section

namespace Cert.Proof.Mla

open Cert.Kernel3Ideal Cert.Kernel3Ideal.Gen
open Idealize.ShloMosaic Idealize.ShloMosaic.TcCoe

/-- A sum times a real that is not negative. -/
theorem sum_mul_coe {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (by exact_mod_cast ha) (EReal.coe_ne_top a), ih]

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A maximum of finitely many numbers below `+∞`, one of them real, is real. -/
theorem fold_max_real {ι : Type} [Fintype ι] (b : EReal) (hb : b < ⊤) (f : ι → EReal) (hf : ∀ i, f i < ⊤) (h : ⊥ < b ∨ ∃ i, ⊥ < f i) :
    ∃ μ : ℝ, Finset.univ.fold max b f = (μ : EReal) := by
  have h1 : Finset.univ.fold max b f < ⊤ := (Finset.fold_max_lt _).2 ⟨hb, fun i _ => hf i⟩
  have h2 : ⊥ < Finset.univ.fold max b f := (Finset.lt_fold_max _).2 (h.imp id fun ⟨i, hi⟩ => ⟨i, Finset.mem_univ i, hi⟩)
  exact ⟨_, (EReal.coe_toReal h1.ne h2.ne').symm⟩

/-- The masked logit of key `s` for query `n`. -/
def lgt (n : ℕ) (l : ℕ → ℝ) (s : ℕ) : EReal := if s ≤ n then (l s : EReal) else ⊥

/-- The weight of key `s` for query `n`, before the division by their sum. -/
def wgt (n : ℕ) (l : ℕ → ℝ) (s : ℕ) : ℝ := if s ≤ n then (2 : ℝ) ^ (l s) else 0

/-- Softmax weights are not negative. -/
theorem wgt_nonneg (n : ℕ) (l : ℕ → ℝ) (s : ℕ) : 0 ≤ wgt n l s := by
  unfold wgt; split
  · exact Real.rpow_nonneg (by norm_num) _
  · exact le_rfl

/-- A masked logit is never `+∞`. -/
theorem lgt_lt_top (n : ℕ) (l : ℕ → ℝ) (s : ℕ) : lgt n l s < ⊤ := by
  unfold lgt; split
  · exact EReal.coe_lt_top _
  · exact bot_lt_top

/-- The sum of a query's weights is positive: no query is without a key. -/
theorem wgt_sum_pos (n : ℕ) (l : ℕ → ℝ) : 0 < ∑ s ∈ Finset.range 4096, wgt n l s :=
  Finset.sum_pos' (fun s _ => wgt_nonneg n l s) ⟨0, by simp, by
    unfold wgt; rw [if_pos (Nat.zero_le n)]; exact Real.rpow_pos_of_pos (by norm_num) _⟩

/-- A power of two of a logit less a real number. -/
theorem exp2_lgt (n : ℕ) (l : ℕ → ℝ) (s : ℕ) (μ : ℝ) :
    Ideal.exp2 (lgt n l s - (μ : EReal)) = ((wgt n l s * (2 : ℝ) ^ (-μ) : ℝ) : EReal) := by
  unfold lgt wgt
  split
  · rw [← EReal.coe_sub, Ideal.exp2_coe, ← Real.rpow_add (by norm_num), ← sub_eq_add_neg]; rfl
  · rw [EReal.bot_sub, Ideal.exp2_bot, zero_mul, EReal.coe_zero]

/-- The attention of one query: the values weighted by the softmax, in base two, of the logits. -/
def attn (V : ℕ → EReal) (n : ℕ) (l : ℕ → ℝ) : EReal :=
  ∑ s ∈ Finset.range 4096, V s * ((wgt n l s / ∑ s' ∈ Finset.range 4096, wgt n l s' : ℝ) : EReal)

/-- Dividing by a positive real. -/
theorem div_coe (x : EReal) {z : ℝ} (hz : 0 < z) : Ideal.div x (z : EReal) = x * ((z⁻¹ : ℝ) : EReal) := by
  unfold Ideal.div
  rw [if_neg (by exact_mod_cast hz.ne'), EReal.coe_inv]

/-- The quotient of two sums of weighted values, weights scaled by the same positive number. -/
theorem attn_of_scaled (V : ℕ → EReal) (n : ℕ) (l : ℕ → ℝ) {κ : ℝ} (hκ : 0 < κ) :
    Ideal.div (∑ s ∈ Finset.range 4096, V s * ((wgt n l s * κ : ℝ) : EReal))
      (∑ s ∈ Finset.range 4096, ((wgt n l s * κ : ℝ) : EReal)) = attn V n l := by
  have hG := wgt_sum_pos n l
  rw [← coe_sum, ← Finset.sum_mul, div_coe _ (mul_pos hG hκ), sum_mul_coe _ _ (inv_nonneg.2 (mul_pos hG hκ).le)]
  unfold attn
  refine Finset.sum_congr rfl fun s _ => ?_
  rw [mul_assoc, ← EReal.coe_mul]
  refine congrArg (fun r : ℝ => V s * (r : EReal)) ?_
  field_simp

/-- The weights of the softmax of natural exponentials of the logits times `log 2`. -/
theorem softmax_exp (n : ℕ) (l : ℕ → ℝ) (f : Fin 4096 → EReal)
    (hf : ∀ s, f s = if s.val ≤ n then ((l s.val * Real.log 2 : ℝ) : EReal) else ⊥) (s : Fin 4096) :
    Ideal.div (Ideal.exp (f s - Finset.univ.fold max ⊥ f)) (∑ s' : Fin 4096, Ideal.exp (f s' - Finset.univ.fold max ⊥ f))
      = ((wgt n l s.val / ∑ s' ∈ Finset.range 4096, wgt n l s' : ℝ) : EReal) := by
  obtain ⟨μ, hμ⟩ := fold_max_real ⊥ bot_lt_top f
    (fun s => by rw [hf]; split; exacts [EReal.coe_lt_top _, bot_lt_top])
    (.inr ⟨0, by rw [hf, if_pos (show ((0 : Fin 4096) : ℕ) ≤ n from Nat.zero_le n)]; exact EReal.bot_lt_coe _⟩)
  have he : ∀ s, Ideal.exp (f s - Finset.univ.fold max ⊥ f) = ((wgt n l s.val * Real.exp (-μ) : ℝ) : EReal) := fun s => by
    rw [hμ, hf]
    unfold wgt
    split
    · rw [← EReal.coe_sub, Ideal.exp_coe, sub_eq_add_neg, Real.exp_add, Real.rpow_def_of_pos (by norm_num), mul_comm (Real.log 2)]
    · rw [EReal.bot_sub, Ideal.exp_bot, zero_mul, EReal.coe_zero]
  have hG := wgt_sum_pos n l
  have hκ := Real.exp_pos (-μ)
  simp only [he]
  rw [← coe_sum, ← Finset.sum_mul, ← Finset.sum_range (fun s => wgt n l s), div_coe _ (mul_pos hG hκ), ← EReal.coe_mul]
  refine congrArg (fun r : ℝ => (r : EReal)) ?_
  field_simp

/-- The logit of query `r` and key `s` of head `h`, in batch entry `b`. -/
def logit (Q K : S16x4096x2048.Idx → EReal) (b h : Fin 16) (r s : Fin 4096) : EReal :=
  ∑ x : Fin 128, Q (Idealize.ShloMosaic.ix3 b r ⟨128 * h.val + x.val, by omega⟩) * K (Idealize.ShloMosaic.ix3 b s ⟨128 * h.val + x.val, by omega⟩)

/-- A query's logits as real numbers, by the key's number. -/
def logits (Q K : S16x4096x2048.Idx → EReal) (b h : Fin 16) (r : Fin 4096) (s : ℕ) : ℝ :=
  if hs : s < 4096 then (logit Q K b h r ⟨s, hs⟩).toReal else 0

/-- A lane of the values, by the key's number. -/
def lane (V : S16x4096x1024.Idx → EReal) (b : Fin 16) (l : Fin 1024) (s : ℕ) : EReal :=
  if hs : s < 4096 then V (Idealize.ShloMosaic.ix3 b ⟨s, hs⟩ l) else 0

/-- Causal attention: every query of every head. -/
def result (Q K : S16x4096x2048.Idx → EReal) (V : S16x4096x1024.Idx → EReal) : S16x4096x1024.Idx → EReal := fun i =>
  attn (lane V (i 0) (i 2)) (i 1).val (logits Q K (i 0) ⟨(i 2).val / 64, by have : (i 2).val < 1024 := (i 2).isLt; omega⟩ (i 1))

/-- An array of real numbers. -/
def Real3 {s : Shape} (X : s.Idx → EReal) : Prop := ∀ i, ∃ r : ℝ, X i = (r : EReal)

/-- A logit of real queries and keys is real. -/
theorem logit_real {Q K : S16x4096x2048.Idx → EReal} (hQ : Real3 Q) (hK : Real3 K) (b h : Fin 16) (r : Fin 4096) {s : ℕ} (hs : s < 4096) :
    logit Q K b h r ⟨s, hs⟩ = (logits Q K b h r s : EReal) := by
  choose q hq using hQ
  choose k hk using hK
  have e : logit Q K b h r ⟨s, hs⟩ = ((∑ x : Fin 128, q (Idealize.ShloMosaic.ix3 b r ⟨128 * h.val + x.val, by omega⟩)
      * k (Idealize.ShloMosaic.ix3 b ⟨s, hs⟩ ⟨128 * h.val + x.val, by omega⟩) : ℝ) : EReal) := by
    unfold logit
    rw [coe_sum]
    exact Finset.sum_congr rfl fun x _ => by rw [hq, hk, EReal.coe_mul]
  unfold logits
  rw [dif_pos hs, e, EReal.toReal_coe]

/-- Attention reads only the keys there are. -/
theorem attn_congr {V V' : ℕ → EReal} {n : ℕ} {l : ℕ → ℝ} (h : ∀ s < 4096, V s = V' s) : attn V n l = attn V' n l := by
  unfold attn
  exact Finset.sum_congr rfl fun s hs => by rw [h s (Finset.mem_range.1 hs)]

/-- Row `d` of head `e`'s values at key `s`. -/
def vAt (X : Ins) (e d s : ℕ) : EReal := rd4 X.v (s / 128) (80 * e + d) (s % 128)

section steps

variable (X : Ins) (t e h q : ℕ) (l : ℕ → ℝ)

/-- Before any key the maximum is `-∞` and the accumulator zero. -/
theorem steps_empty : mM X t e h 2 q = ⊥ ∧ ∀ d, mC X t e h 2 d q = 0 := by
  have hM1 : mM X t e h 1 q = ⊥ := by
    rw [mM, mM, max_eq_right bot_le, show (fun i : Fin 256 => mS X t e h 0 i.val q) = fun _ => ⊥ from funext fun i => by simp [mS], fold_bot]
  have hM2 : mM X t e h 2 q = ⊥ := by
    rw [mM, hM1, max_eq_right bot_le, show (fun i : Fin 256 => mS X t e h 1 i.val q) = fun _ => ⊥ from funext fun i => by simp [mS], fold_bot]
  have hP0 : ∀ i, mP X t e h 0 i q = 0 := fun i => by
    unfold mP; rw [hM1]; simp [mS, safe]
  have hP1 : ∀ i, mP X t e h 1 i q = 0 := fun i => by
    unfold mP; rw [hM2]; simp [mS, safe]
  refine ⟨hM2, fun d => ?_⟩
  rw [mC, mC, mC]
  simp only [hP0, hP1, mul_zero, Finset.sum_const_zero, add_zero, zero_mul]

/-- The state after `k` tiles of keys. -/
def Seen (k : ℕ) : Prop := ∃ μ : ℝ, mM X t e h (k + 2) q = (μ : EReal)
  ∧ ∀ d, mC X t e h (k + 2) d q
    = ∑ s ∈ Finset.range (256 * k), vAt X e d s * ((wgt (1024 * t + (256 * h + q)) l s * (2 : ℝ) ^ (-μ) : ℝ) : EReal)

variable (hl : ∀ s < 4096, dotKQ X e s (1024 * t + (256 * h + q)) = (l s : EReal))

include hl in
/-- The logits of a tile. -/
theorem mS_tile {k i : ℕ} (hk : k < 16) (hi : i < 256) : mS X t e h (k + 2) i q = lgt (1024 * t + (256 * h + q)) l (256 * k + i) := by
  unfold mS lgt
  rw [if_neg (by omega), Nat.add_sub_cancel]
  split
  · exact hl _ (by omega)
  · rfl

include hl in
/-- The weighted values of a tile. -/
theorem tile_sum {k : ℕ} (hk : k < 16) {μ : ℝ} (hμ : mM X t e h (k + 3) q = (μ : EReal)) (d : ℕ) :
    ∑ x : Fin 128, rd4 X.v (2 * (k + 2 - 2) + 0) (80 * e + d) x.val * mP X t e h (k + 2) x.val q
        + ∑ x : Fin 128, rd4 X.v (2 * (k + 2 - 2) + 1) (80 * e + d) x.val * mP X t e h (k + 2) (128 + x.val) q
      = ∑ x ∈ Finset.range 256, vAt X e d (256 * k + x) * ((wgt (1024 * t + (256 * h + q)) l (256 * k + x) * (2 : ℝ) ^ (-μ) : ℝ) : EReal) := by
  have hP : ∀ i < 256, mP X t e h (k + 2) i q = ((wgt (1024 * t + (256 * h + q)) l (256 * k + i) * (2 : ℝ) ^ (-μ) : ℝ) : EReal) := fun i hi => by
    unfold mP
    rw [mS_tile X t e h q l hl hk hi, hμ, safe, if_neg (EReal.coe_ne_bot μ), exp2_lgt]
  rw [show (256 : ℕ) = 128 + 128 from rfl, Finset.sum_range_add, Finset.sum_range, Finset.sum_range]
  refine congrArg₂ (· + ·) (Finset.sum_congr rfl fun x _ => ?_) (Finset.sum_congr rfl fun x _ => ?_)
  · have := x.isLt
    rw [hP _ (by omega)]
    unfold vAt
    rw [show ((128 + 128) * k + x.val) / 128 = 2 * (k + 2 - 2) + 0 by omega, show ((128 + 128) * k + x.val) % 128 = x.val by omega]
  · have := x.isLt
    rw [hP _ (by omega)]
    unfold vAt
    rw [show ((128 + 128) * k + (128 + x.val)) / 128 = 2 * (k + 2 - 2) + 1 by omega, show ((128 + 128) * k + (128 + x.val)) % 128 = x.val by omega]

include hl in
/-- After the first tile. -/
theorem seen_one : Seen X t e h q l 1 := by
  obtain ⟨hM, hC⟩ := steps_empty X t e h q
  obtain ⟨μ, hμ⟩ : ∃ μ : ℝ, mM X t e h 3 q = (μ : EReal) := by
    rw [mM, hM, max_eq_right bot_le]
    refine fold_max_real ⊥ bot_lt_top _ (fun i => ?_) (.inr ⟨0, ?_⟩)
    · rw [show (2 : ℕ) = 0 + 2 from rfl, mS_tile X t e h q l hl (by decide) i.isLt]; exact lgt_lt_top _ _ _
    · rw [show (2 : ℕ) = 0 + 2 from rfl, mS_tile X t e h q l hl (by decide) (by decide)]
      unfold lgt; rw [if_pos (show 256 * 0 + ((0 : Fin 256) : ℕ) ≤ _ from Nat.zero_le _)]; exact EReal.bot_lt_coe _
  refine ⟨μ, hμ, fun d => ?_⟩
  rw [mC, hC, zero_mul, zero_add]
  refine (tile_sum X t e h q l hl (k := 0) (by decide) hμ d).trans ?_
  simp only [Nat.mul_zero, Nat.zero_add, Nat.mul_one]

include hl in
/-- One more tile. -/
theorem seen_succ {k : ℕ} (hk : k < 16) (hs : Seen X t e h q l k) : Seen X t e h q l (k + 1) := by
  obtain ⟨μ, hμ, hC⟩ := hs
  obtain ⟨ν, hν⟩ : ∃ ν : ℝ, mM X t e h (k + 3) q = (ν : EReal) := by
    rw [mM, hμ]
    have hlt : Finset.univ.fold max ⊥ (fun i : Fin 256 => mS X t e h (k + 2) i.val q) < ⊤ := (Finset.fold_max_lt _).2 ⟨bot_lt_top, fun i _ => by
      rw [mS_tile X t e h q l hl hk i.isLt]; exact lgt_lt_top _ _ _⟩
    exact ⟨_, (EReal.coe_toReal (max_lt (EReal.coe_lt_top μ) hlt).ne ((EReal.bot_lt_coe μ).trans_le (le_max_left _ _)).ne').symm⟩
  refine ⟨ν, hν, fun d => ?_⟩
  have hA : mA X t e h (k + 2) q = (((2 : ℝ) ^ (μ - ν) : ℝ) : EReal) := by
    unfold mA
    rw [if_neg (by omega), hμ, hν, safe, if_neg (EReal.coe_ne_bot ν), ← EReal.coe_sub, Ideal.exp2_coe]; rfl
  rw [show k + 1 + 2 = (k + 2) + 1 from rfl, mC, hC, hA, sum_mul_coe _ _ (Real.rpow_nonneg (by norm_num) _), tile_sum X t e h q l hl hk hν d,
    Nat.mul_add, Nat.mul_one, Finset.sum_range_add]
  refine congrArg (· + _) (Finset.sum_congr rfl fun s _ => ?_)
  rw [mul_assoc, ← EReal.coe_mul, mul_assoc, ← Real.rpow_add (by norm_num), neg_add_eq_sub, sub_sub_cancel_left]

include hl in
/-- After any number of tiles. -/
theorem seen (k : ℕ) (h0 : 1 ≤ k) (hk : k ≤ 16) : Seen X t e h q l k := by
  induction k, h0 using Nat.le_induction with
  | base => exact seen_one X t e h q l hl
  | succ k _ ih => exact seen_succ X t e h q l hl (by omega) (ih (by omega))

include hl in
/-- What the body stores is the attention. -/
theorem mO_eq (ht : t < 4) (hh : h < 4) (hq : q < 256) (hv : ∀ s < 4096, vAt X e 64 s = 1) (d : ℕ) :
    mO X t e h (4 * t + h + 3) d q = attn (vAt X e d) (1024 * t + (256 * h + q)) l := by
  obtain ⟨μ, -, hC⟩ := seen X t e h q l hl (4 * t + h + 1) (by omega) (by omega)
  have hfull : ∀ d, mC X t e h (4 * t + h + 3) d q
      = ∑ s ∈ Finset.range 4096, vAt X e d s * ((wgt (1024 * t + (256 * h + q)) l s * (2 : ℝ) ^ (-μ) : ℝ) : EReal) := fun d => by
    refine (hC d).trans (Finset.sum_subset (Finset.range_mono (by omega)) fun s _ hs => ?_)
    have hs' : 256 * (4 * t + h + 1) ≤ s := Nat.le_of_not_lt fun hc => hs (Finset.mem_range.2 hc)
    unfold wgt
    rw [if_neg (by omega), zero_mul, EReal.coe_zero, mul_zero]
  unfold mO
  rw [hfull d, hfull 64, ← attn_of_scaled (vAt X e d) _ l (Real.rpow_pos_of_pos (by norm_num : (0 : ℝ) < 2) (-μ))]
  refine congrArg _ (Finset.sum_congr rfl fun s hs => ?_)
  rw [hv s (Finset.mem_range.1 hs), one_mul]

end steps

end Cert.Proof.Mla
end
-- ==== Proof.MlaValue.lean ====
module

public import proofs.«01_k».proof.Proof.MlaRun
public import proofs.«01_k».proof.Proof.MlaMath
public import Idealize.ShloMosaic.Lib.Pipeline.Value
public import Idealize.ShloMosaic.Lib.Pointwise
public import Idealize.ShloMosaic.Lib.Pipeline.ValueKit.Geometry
public import Idealize.ShloMosaic.Lib.Pipeline.ValueKit.Tiles

/-! The latent attention call's result array: causal softmax attention of the arguments. -/

@[expose] public section

set_option maxRecDepth 16384

noncomputable section

namespace Cert.Proof.Mla

open Cert.Kernel3Ideal Cert.Kernel3Ideal.Gen
open Idealize.ShloMosaic Idealize.ShloMosaic.TcCoe Idealize.ShloMosaic.Tactic

variable (m : (ℓ : Loc nD τ sig) → Buf (Elt Ideal) ℓ) (ρ : Dev nD → PrngReg)

/-- The values as the call is given them: 80 rows a head, the first 64 its values transposed. -/
theorem V_values (c : Dev nD) (b : Fin 16) (k : Fin 32) (r : Fin 1280) (x : Fin 128) (hr : r.val % 80 < 64) :
    (V m c main_v6 : Vec Ideal S16x32x1280x128 .bf16) (Idealize.ShloMosaic.ix4 b k r x)
      = (m ((c : Thread nD τ).loc main_arg2) : Vec Ideal S16x4096x1024 .bf16)
        (Idealize.ShloMosaic.ix3 b ⟨128 * k.val + x.val, by omega⟩ ⟨64 * (r.val / 80) + r.val % 80, by omega⟩) := by
  unfold V
  simp only [hostOps0, List.flatten_cons, List.flatten_nil, List.append_nil, List.cons_append, List.nil_append]
  after_results
  pointwise
  rw [dif_pos hr]
  refine (congrFun (StableHlo.unary_result_ne (r := main_v1) main_cst_0 main_v3 _ _ _ _ (by decide)) _).trans ?_
  refine (congrFun (StableHlo.nullary_result_ne (r := main_v1) main_cst_0 _ _ _ (by decide)) _).trans ?_
  refine (congrFun (StableHlo.unary_result_ne (r := main_v1) main_cst main_v2 _ _ _ _ (by decide)) _).trans ?_
  refine (congrFun (StableHlo.nullary_result_ne (r := main_v1) main_cst _ _ _ (by decide)) _).trans ?_
  refine (congrFun (StableHlo.unary_result _ _ _ _ _ _) _).trans ?_
  rw [StableHlo.reshape_result]
  pointwise
  refine congrArg (m ((c : Thread nD τ).loc main_arg2) : Vec Ideal S16x4096x1024 .bf16) ?_
  refine congr (congr (congrArg Idealize.ShloMosaic.ix3 ?_) ?_) ?_
  · exact Fin.ext (by show (b.val * 32 + k.val) / 32 = b.val; omega)
  · exact Fin.ext (by show (b.val * 32 + k.val) % 32 * 128 + x.val = 128 * k.val + x.val; omega)
  · exact Fin.ext (by show r.val / 80 * 64 + r.val % 80 = 64 * (r.val / 80) + r.val % 80; omega)

/-- The next row is all ones. -/
theorem V_ones (c : Dev nD) (b : Fin 16) (k : Fin 32) (r : Fin 1280) (x : Fin 128) (hr : r.val % 80 = 64) :
    (V m c main_v6 : Vec Ideal S16x32x1280x128 .bf16) (Idealize.ShloMosaic.ix4 b k r x) = (1 : EReal) := by
  unfold V
  simp only [hostOps0, List.flatten_cons, List.flatten_nil, List.append_nil, List.cons_append, List.nil_append]
  after_results
  pointwise
  rw [dif_neg (by omega), dif_pos (by omega)]
  refine (congrFun (StableHlo.unary_result_ne (r := main_v2) main_cst_0 main_v3 _ _ _ _ (by decide)) _).trans ?_
  refine (congrFun (StableHlo.nullary_result_ne (r := main_v2) main_cst_0 _ _ _ (by decide)) _).trans ?_
  refine (congrFun (StableHlo.unary_result _ _ _ _ _ _) _).trans ?_
  rw [StableHlo.nullary_result]
  pointwise

/-! The windows' block indices in closed form: batch entry `t / 8`, pair of heads `t % 8`. -/

/-- The queries' block. -/
theorem idx0 : ∀ t : Fin cfg0.N, win0_0.index t = ![t.val / 8, 0, t.val % 8] := (by decide +kernel : ∀ t : Fin grid0.N, _)
/-- The keys' block. -/
theorem idx1 : ∀ t : Fin cfg0.N, win0_1.index t = ![t.val / 8, 0, t.val % 8] := (by decide +kernel : ∀ t : Fin grid0.N, _)
/-- The values' block. -/
theorem idx2 : ∀ t : Fin cfg0.N, win0_2.index t = ![t.val / 8, 0, t.val % 8, 0] := (by decide +kernel : ∀ t : Fin grid0.N, _)
/-- The result's block. -/
theorem idx3 : ∀ t : Fin cfg0.N, win0_3.index t = ![t.val / 8, 0, t.val % 8] := (by decide +kernel : ∀ t : Fin grid0.N, _)

/-- The batch entry of grid point `t`. -/
abbrev bat (t : Fin cfg0.N) : Fin 16 := ⟨t.val / 8, by have := t.isLt; have : cfg0.N = 128 := N_0; omega⟩

/-- The queries of grid point `t`. -/
theorem rd3_q (c : Dev nD) (t : Fin cfg0.N) (r : Fin 4096) {l : ℕ} (hl : l < 256) : rd3 (ins m c t).q r.val l
    = (m ((c : Thread nD τ).loc main_arg0) : Vec Ideal S16x4096x2048 .bf16) (Idealize.ShloMosaic.ix3 (bat t) r ⟨256 * (t.val % 8) + l, by omega⟩) := by
  unfold rd3 ins
  rw [dif_pos ⟨r.isLt, hl⟩, ← V_main_arg0 m c]
  show (iblk m c 0 t : Vec Ideal S1x4096x256 .bf16) _ = _
  blk_simp [iblk]
  exact congrArg _ (by blk_ext [idx0])

/-- The keys of grid point `t`. -/
theorem rd3_k (c : Dev nD) (t : Fin cfg0.N) (r : Fin 4096) {l : ℕ} (hl : l < 256) : rd3 (ins m c t).k r.val l
    = (m ((c : Thread nD τ).loc main_arg1) : Vec Ideal S16x4096x2048 .bf16) (Idealize.ShloMosaic.ix3 (bat t) r ⟨256 * (t.val % 8) + l, by omega⟩) := by
  unfold rd3 ins
  rw [dif_pos ⟨r.isLt, hl⟩, ← V_main_arg1 m c]
  show (iblk m c 1 t : Vec Ideal S1x4096x256 .bf16) _ = _
  blk_simp [iblk]
  exact congrArg _ (by blk_ext [idx1])

/-- The rows of values of grid point `t`. -/
theorem rd4_v (c : Dev nD) (t : Fin cfg0.N) (k : Fin 32) (x : Fin 128) {r : ℕ} (hr : r < 160) : rd4 (ins m c t).v k.val r x.val
    = (V m c main_v6 : Vec Ideal S16x32x1280x128 .bf16) (Idealize.ShloMosaic.ix4 (bat t) k ⟨160 * (t.val % 8) + r, by omega⟩ x) := by
  have hW : ∀ W : (b : Ref sig .tc) → Buf (Elt Ideal) ((c : Thread nD τ).loc b),
      (View.read (Elt Ideal) ((cfg0.win 2).blk t).view (W (Pipeline.arrRef spec0 2)) : Vec Ideal S1x32x160x128 .bf16) (Idealize.ShloMosaic.ix4 0 k ⟨r, hr⟩ x)
        = (W main_v6 : Vec Ideal S16x32x1280x128 .bf16) (Idealize.ShloMosaic.ix4 (bat t) k ⟨160 * (t.val % 8) + r, by omega⟩ x) := fun W => by
    blk_simp
    exact congrArg (W main_v6) (by blk_ext [idx2])
  unfold rd4
  rw [dif_pos ⟨k.isLt, hr, x.isLt⟩]
  exact hW (V m c)

/-- After the region the result array is the attention of the arguments: every block is, and the blocks cover the array. -/
theorem final (c : Dev nD) (hQ : Real3 (m ((c : Thread nD τ).loc main_arg0) : S16x4096x2048.Idx → EReal))
    (hK : Real3 (m ((c : Thread nD τ).loc main_arg1) : S16x4096x2048.Idx → EReal)) :
    (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  have hN : t.val < 128 := lt_of_lt_of_eq t.isLt N_0
  obtain ⟨z, r, l, rfl⟩ : ∃ (z : Fin 1) (r : Fin 4096) (l : Fin 128), y = Idealize.ShloMosaic.ix3 z r l := ⟨y 0, y 1, y 2, (Idealize.ShloMosaic.ix3_eta y).symm⟩
  have e : (win0_3.blk t).view.emb (Idealize.ShloMosaic.ix3 z r l) = Idealize.ShloMosaic.ix3 (bat t) r ⟨128 * (t.val % 8) + l.val, by omega⟩ := by blk_ext [idx3]
  rw [e]
  have hr : 1024 * (r.val / 1024) + (256 * (r.val % 1024 / 256) + r.val % 256) = r.val := by omega
  have key := mO_eq (ins m c t) (r.val / 1024) (l.val / 64) (r.val % 1024 / 256) (r.val % 256)
    (logits (m ((c : Thread nD τ).loc main_arg0)) (m ((c : Thread nD τ).loc main_arg1)) (bat t) ⟨(128 * (t.val % 8) + l.val) / 64, by omega⟩ r)
    (fun s hs => by
      rw [hr, ← logit_real hQ hK _ _ _ hs]
      unfold dotKQ logit
      refine Finset.sum_congr rfl fun x _ => ?_
      rw [rd3_q m c t r (by omega), show rd3 (ins m c t).k s _ = _ from rd3_k m c t ⟨s, hs⟩ (by omega), mul_comm]
      refine congrArg₂ (· * ·) (congrArg _ (congrArg _ (Fin.ext ?_))) (congrArg _ (congrArg _ (Fin.ext ?_)))
      · show 256 * (t.val % 8) + (128 * (l.val / 64) + x.val) = 128 * ((128 * (t.val % 8) + l.val) / 64) + x.val; omega
      · show 256 * (t.val % 8) + (128 * (l.val / 64) + x.val) = 128 * ((128 * (t.val % 8) + l.val) / 64) + x.val; omega)
    (by omega) (by omega) (by omega)
    (fun s hs => by
      unfold vAt
      refine (rd4_v m c t ⟨s / 128, by omega⟩ ⟨s % 128, by omega⟩ (r := 80 * (l.val / 64) + 64) (by omega)).trans ?_
      exact V_ones m c _ _ _ _ (by show (160 * (t.val % 8) + (80 * (l.val / 64) + 64)) % 80 = 64; omega))
    (l.val % 64)
  refine Eq.trans (b := mY (ins m c t) r.val l.val) rfl (key.trans ?_)
  rw [hr]
  refine attn_congr fun s hs => ?_
  unfold vAt lane
  rw [dif_pos hs]
  refine (rd4_v m c t ⟨s / 128, by omega⟩ ⟨s % 128, by omega⟩ (r := 80 * (l.val / 64) + l.val % 64) (by omega)).trans ?_
  rw [V_values m c _ _ _ _ (by show (160 * (t.val % 8) + (80 * (l.val / 64) + l.val % 64)) % 80 < 64; omega)]
  refine congrArg _ ?_
  refine congrArg₂ (Idealize.ShloMosaic.ix3 (bat t)) (Fin.ext ?_) (Fin.ext ?_)
  · show 128 * (s / 128) + s % 128 = s; omega
  · show 64 * ((160 * (t.val % 8) + (80 * (l.val / 64) + l.val % 64)) / 80) + (160 * (t.val % 8) + (80 * (l.val / 64) + l.val % 64)) % 80
      = 128 * (t.val % 8) + l.val; omega

/-- The call's run: it ends with the result array at the attention of the arguments, the arguments as they were. -/
theorem run (hQ : ∀ c : Dev nD, Real3 (m ((c : Thread nD τ).loc main_arg0) : S16x4096x2048.Idx → EReal))
    (hK : ∀ c : Dev nD, Real3 (m ((c : Thread nD τ).loc main_arg1) : S16x4096x2048.Idx → EReal)) :
    θ_run defs (onTc (τ := τ) (main (F := Ideal))) ⟨m, fun _ => 0, ρ⟩ fun r => ∀ c : Dev nD,
      r.2.mem ((c : Thread nD τ).loc main_v7) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 3).trans (final m c (hQ c) (hK c)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩) (run_main m ρ)

end Cert.Proof.Mla
end
-- ==== Proof.MlaRef.lean ====
module

public import proofs.«01_k».proof.Defs
public import proofs.«01_k».proof.Proof.Gen.Reference3Ideal.Run
public import proofs.«01_k».proof.Proof.MlaMath
public import Idealize.ShloMosaic.Lib.Pointwise
public import Idealize.ShloMosaic.Lib.Quiescent

/-! The latent attention's reference, read at an index, stage by stage. -/

@[expose] public section

set_option maxRecDepth 16384

noncomputable section

namespace Cert.Proof.Mla

open Cert.Reference3Ideal Cert.Reference3Ideal.Gen
open Idealize.ShloMosaic Idealize.ShloMosaic.TcCoe Idealize.SL.Sem

section
variable (Q K : Vec Ideal S16x4096x2048 .bf16) (V : Vec Ideal S16x4096x1024 .bf16)

/-- The products of queries and keys, times the logarithm of two. -/
def refDot : FVec Ideal S16x16x4096x4096 .f32 :=
  mulf (Host.dotGeneral (F := Ideal) (φ₁ := .f32) (φ₂ := .f32) dot_S16x4096x16x128_S16x4096x16x128_S16x16x4096x4096_3_3_1_1_02_02 none
      (shapeCast _ (extf .f32 Q bitsLt_bf16_f32) shapeCasts_S16x4096x2048_S16x4096x16x128)
      (shapeCast _ (extf .f32 K bitsLt_bf16_f32) shapeCasts_S16x4096x2048_S16x4096x16x128))
    (broadcastInDim S16x16x4096x4096 ![] bcast_S_S16x16x4096x4096 (Host.log (constant (F := Ideal) S_ .f32 0x40000000#32)))

/-- The number two. -/
theorem two_f32 : Ideal.ofBits .f32 0x40000000#32 = ((2 : ℝ) : EReal) := by
  simp [Ideal.ofBits, Ideal.ieee]; rw [← EReal.coe_mul]; norm_num

/-- The scaled products at an index. -/
theorem refDot_apply (b h : Fin 16) (r s : Fin 4096) : refDot Q K (Idealize.ShloMosaic.ix4 b h r s) = logit Q K b h r s * ((Real.log 2 : ℝ) : EReal) := by
  unfold refDot
  pointwise
  rw [two_f32, Ideal.log_coe, if_neg (by norm_num)]
  unfold logit
  simp only [mul_comm 128]

/-- The causal mask. -/
def refMask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked logits. -/
def refLogits : FVec Ideal S16x16x4096x4096 .f32 :=
  select (broadcastInDim S16x16x4096x4096 ![2, 3] bcast_S4096x4096_S16x16x4096x4096_2_3 refMask) (refDot Q K)
    (broadcastInDim S16x16x4096x4096 ![] bcast_S_S16x16x4096x4096 (id (constant (F := Ideal) S_ .f32 0xFF800000#32)))

/-- The masked logits at an index. -/
theorem refLogits_apply (b h : Fin 16) (r s : Fin 4096) : refLogits Q K (Idealize.ShloMosaic.ix4 b h r s)
    = if s.val ≤ r.val then logit Q K b h r s * ((Real.log 2 : ℝ) : EReal) else ⊥ := by
  unfold refLogits refMask
  pointwise
  rw [refDot_apply]
  have hc := WordCmp.cmpi_sle_ofNat_eq_one_iff (w := 32) (a := s.val) (b := r.val) (by have := s.isLt; norm_num; omega) (by have := r.isLt; norm_num; omega)
  by_cases hsr : s.val ≤ r.val
  · rw [if_pos hsr, hc.mpr hsr]; rfl
  · rw [if_neg hsr]; exact (if_neg fun h' => hsr (hc.mp h')).trans neg_inf

/-- The exponentials of the logits less their maximum. -/
def refExp (L : FVec Ideal S16x16x4096x4096 .f32) : FVec Ideal S16x16x4096x4096 .f32 :=
  Host.exp (subf L (broadcastInDim S16x16x4096x4096 ![0, 1, 2, 3] bcast_S16x16x4096x1_S16x16x4096x4096_0_1_2_3
    (broadcastInDim S16x16x4096x1 ![0, 1, 2] bcast_S16x16x4096_S16x16x4096x1_0_1_2
      (Host.reduce FloatOps.maximumf L (constant (F := Ideal) S_ .f32 0xFF800000#32) reducesTo_S16x16x4096x4096_S16x16x4096_d3 h_S_))))

/-- The exponentials at an index. -/
theorem refExp_apply (L : FVec Ideal S16x16x4096x4096 .f32) (b h : Fin 16) (r s : Fin 4096) : refExp L (Idealize.ShloMosaic.ix4 b h r s)
    = Ideal.exp (L (Idealize.ShloMosaic.ix4 b h r s) - Finset.univ.fold max ⊥ fun x : Fin 4096 => L (Idealize.ShloMosaic.ix4 b h r x)) := by
  unfold refExp
  pointwise
  rw [show Ideal.ofBits .f32 4286578688#32 = ⊥ from neg_inf]

/-- The weights. -/
def refSoft (E : FVec Ideal S16x16x4096x4096 .f32) : FVec Ideal S16x16x4096x4096 .f32 :=
  Host.divf E (broadcastInDim S16x16x4096x4096 ![0, 1, 2, 3] bcast_S16x16x4096x1_S16x16x4096x4096_0_1_2_3
    (broadcastInDim S16x16x4096x1 ![0, 1, 2] bcast_S16x16x4096_S16x16x4096x1_0_1_2
      (Host.reduceAdd E (constant (F := Ideal) S_ .f32 0x00000000#32) reducesTo_S16x16x4096x4096_S16x16x4096_d3 h_S_)))

/-- The softmax at an index. -/
theorem refSoft_apply (E : FVec Ideal S16x16x4096x4096 .f32) (b h : Fin 16) (r s : Fin 4096) : refSoft E (Idealize.ShloMosaic.ix4 b h r s)
    = Ideal.div (E (Idealize.ShloMosaic.ix4 b h r s)) (∑ x : Fin 4096, E (Idealize.ShloMosaic.ix4 b h r x)) := by
  unfold refSoft
  pointwise

/-- The weighted values. -/
def refOut (P : FVec Ideal S16x16x4096x4096 .f32) : FVec Ideal S16x4096x1024 .bf16 :=
  truncf .bf16 (shapeCast _ (transpose S16x4096x16x64 [0, 3, 1, 2] (Host.dotGeneral (F := Ideal) (φ₁ := .f32) (φ₂ := .f32) dot_S16x4096x16x64_S16x16x4096x4096_S16x16x64x4096_1_3_3_2_02_01 none
    (shapeCast _ (extf .f32 V bitsLt_bf16_f32) shapeCasts_S16x4096x1024_S16x4096x16x64) P) transposes_S16x16x64x4096_S16x4096x16x64_0_3_1_2) shapeCasts_S16x4096x16x64_S16x4096x1024) bitsLt_bf16_f32

/-- The reference's result at an index. -/
theorem refOut_apply (P : FVec Ideal S16x16x4096x4096 .f32) (b : Fin 16) (r : Fin 4096) (l : Fin 1024) : refOut V P (Idealize.ShloMosaic.ix3 b r l)
    = ∑ x : Fin 4096, V (Idealize.ShloMosaic.ix3 b x l) * P (Idealize.ShloMosaic.ix4 b ⟨l.val / 64, by omega⟩ r x) := by
  unfold refOut
  pointwise

/-- The reference's result is causal attention of its arguments. -/
theorem ref_eq (hQ : Real3 Q) (hK : Real3 K) : refOut V (refSoft (refExp (refLogits Q K))) = result Q K V := by
  funext i
  obtain ⟨b, r, l, rfl⟩ : ∃ (b : Fin 16) (r : Fin 4096) (l : Fin 1024), i = Idealize.ShloMosaic.ix3 b r l := ⟨i 0, i 1, i 2, (Idealize.ShloMosaic.ix3_eta i).symm⟩
  rw [refOut_apply]
  show _ = attn (lane V b l) r.val (logits Q K b ⟨l.val / 64, by omega⟩ r)
  unfold attn
  rw [Finset.sum_range]
  refine Finset.sum_congr rfl fun s _ => congrArg₂ (· * ·) ?_ ?_
  · unfold lane; rw [dif_pos s.isLt]
  · rw [refSoft_apply]
    simp only [refExp_apply]
    refine softmax_exp r.val (logits Q K b ⟨l.val / 64, by omega⟩ r) (fun s => refLogits Q K (Idealize.ShloMosaic.ix4 b ⟨l.val / 64, by omega⟩ r s)) (fun s => ?_) s
    rw [refLogits_apply, EReal.coe_mul, ← logit_real hQ hK b _ r s.isLt]

end

/-- The reference's result, stage by stage. -/
theorem ref_res (m : (ℓ : Loc nD τ sig) → Buf (Elt Ideal) ℓ) (c : Dev nD) : Cert.Reference3Ideal.Value.res_main_v29 (F := Ideal) m c
    = refOut (m ((c.tc : Thread nD τ).loc main_arg2)) (refSoft (refExp (refLogits (m ((c.tc : Thread nD τ).loc main_arg0)) (m ((c.tc : Thread nD τ).loc main_arg1))))) := rfl

end Cert.Proof.Mla
end
-- ==== Proof.MlaClaims.lean ====
module

public import proofs.«01_k».proof.Proof.MlaFrame
public import proofs.«01_k».proof.Proof.MlaValue
public import proofs.«01_k».proof.Proof.MlaRef

/-! The claims on the latent attention call: its frames, and its value against the reference. -/

@[expose] public section

set_option maxRecDepth 16384

noncomputable section

namespace Cert.Proof.Mla

open Idealize.ShloMosaic Idealize.ShloMosaic.TcCoe Idealize.SL.Sem

/-- The shape relations the precondition's operations take. -/
instance preFacts : Cert.Pre_finite.Facts := ⟨by decide, by decide⟩

/-- The pattern the precondition compares with is that of `+∞`. -/
theorem pos_inf : Ideal.ofBits .f32 0x7F800000#32 = (⊤ : EReal) := by
  simp [Ideal.ofBits, Ideal.ieee]

/-- A magnitude below `+∞` is that of a real number. -/
theorem real_of_abs_lt {x : EReal} (h : max x (-x) < ⊤) : ∃ r : ℝ, x = (r : EReal) := by
  obtain ⟨h1, h2⟩ := max_lt_iff.1 h
  induction x with
  | bot => simp at h2
  | top => simp at h1
  | coe r => exact ⟨r, rfl⟩

/-- A conjunction of two bits is set only if both are. -/
theorem and_bits {a b : BitVec 1} (h : a &&& b = 1#1) : a = 1#1 ∧ b = 1#1 := by
  revert a b; decide

/-- A comparison that comes out true holds. -/
theorem lt_of_cmpf {φ : FTy} {a b : EReal} (h : FloatOps.cmpf (F := Ideal) (φ := φ) .olt a b = 1#1) : a < b := by
  by_contra hn
  have e : Ideal.cmp .olt a b = 1#1 := h
  simp [Ideal.cmp, hn] at e

/-- Where the precondition holds, every query and every key is a real number. -/
theorem real_of_pre {Q K : Vec Ideal Cert.Pre_finite.S16x4096x2048 .bf16} {V : Vec Ideal Cert.Pre_finite.S16x4096x1024 .bf16}
    (h : Cert.Pre_finite.fn (F := Ideal) Q K V = fun _ => 1#1) : Real3 (Q : _ → EReal) ∧ Real3 (K : _ → EReal) := by
  have hi := fun i => and_bits (congrFun h i)
  constructor <;> intro i
  · have := lt_of_cmpf (hi i).1
    exact real_of_abs_lt (this.trans_eq pos_inf)
  · have := lt_of_cmpf (hi i).2
    exact real_of_abs_lt (this.trans_eq pos_inf)

/-- The call with its own roundings runs and leaves its arguments as they were. -/
theorem frame_kernel : Cert.quiescent_Kernel3 := fun m g _ => MlaSafe.frame_mla m g

/-- So it does over the extended reals, whatever its arguments. -/
theorem frame_kernel_ideal : Cert.quiescent_Kernel3Ideal := fun m g _ => frame_ideal m g

/-- And under the precondition. -/
theorem frame_kernel_ideal_pre : Cert.quiescent_Kernel3Ideal_pre_finite := fun m g _ => frame_ideal m g

/-- The reference runs and leaves its arguments as they were. -/
theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- And under the precondition. -/
theorem frame_ref_pre : Cert.quiescent_Reference3Ideal_pre_finite := fun m ρ _ => frame_ref m ρ trivial

/-- The idealization rewrote nothing. -/
theorem preserves : Cert.preserves_Kernel3_Kernel3Ideal := trivial

/-- From equal arguments whose queries and keys are finite, the call and the reference end with equal results over
    the extended reals. -/
theorem algebraic : Cert.algebraic_Kernel3Ideal_Reference3Ideal_pre_finite := by
  intro m ρ m' ρ' hpre hagree
  refine ⟨_, run m ρ (fun c => (real_of_pre (hpre c)).1) (fun c => (real_of_pre (hpre c)).2), ?_⟩
  refine (θ_run Cert.Reference3Ideal.defs _ _).mono (fun r h c => ⟨(h c).1.trans ?_, (h c).2⟩) (Cert.Reference3Ideal.Value.run (F := Ideal) m' ρ')
  obtain ⟨h0, h1, h2⟩ := hagree c
  rw [ref_res, h0, h1, h2]
  exact ref_eq _ _ _ (real_of_pre (hpre c)).1 (real_of_pre (hpre c)).2

end Cert.Proof.Mla
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3Ideal.Frame
public import proofs.«01_k».proof.Proof.Gen.Kernel3Ideal.Skeleton
public import proofs.«01_k».proof.Proof.Gen.Kernel3Ideal
public import proofs.«01_k».proof.Proof.Gen.Reference3Ideal.Run
public import proofs.«01_k».proof.Proof.Gen.Reference3Ideal
public import proofs.«01_k».proof.Proof.Gen.Kernel3
public import proofs.«01_k».proof.Proof.Gen.Kernel3.Skeleton
public import proofs.«01_k».proof.Proof.Gen.Kernel3.Frame
public import proofs.«01_k».proof.Proof.DsaFrame
public import proofs.«01_k».proof.Proof.MlpRef
public import proofs.«01_k».proof.Proof.MlaClaims

@[expose] public section

noncomputable section

namespace Cert.Proof

/-- Every claim of the certificate. -/
theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Mla.preFacts,
    fun m g _ => Safe.frame_dsa m g, Mlp.frame_kernel, Mlp.frame_ideal, Mlp.frame_ref,
    Mla.frame_kernel, Mla.frame_kernel_ideal, Mla.frame_kernel_ideal_pre, Mla.frame_ref, Mla.frame_ref_pre,
    Mlp.preserves, Mlp.algebraic, Mla.preserves, Mla.algebraic⟩

end Cert.Proof

end
